-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 512]⟩ ⟨2, ![768, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![768, 512]⟩ ⟨2, ![768, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x512 : Shape := ⟨2, ![768, 512]⟩
abbrev S512 : Shape := ⟨1, ![512]⟩
abbrev S16x768 : Shape := ⟨2, ![16, 768]⟩
abbrev S15 : Shape := ⟨1, ![15]⟩
abbrev S16 : Shape := ⟨1, ![16]⟩
abbrev S_ : Shape := ⟨0, ![]⟩
abbrev S768 : Shape := ⟨1, ![768]⟩
abbrev S1x768 : Shape := ⟨2, ![1, 768]⟩
abbrev S1 : Shape := ⟨1, ![1]⟩
abbrev S1x512 : Shape := ⟨2, ![1, 512]⟩
abbrev S768x1 : Shape := ⟨2, ![768, 1]⟩

abbrev nBuf : Space → Nat
  | .hbm => 3
  | .vmem => 4
  | .smem => 0
  | _ => 0

abbrev bufTy : (tb : Table) → Fin (tcTables nBuf tb) → BufTy
  | .hbm, ⟨0, _⟩ => ⟨S768x512, .f32⟩
  | .hbm, ⟨1, _⟩ => ⟨S512, .f32⟩
  | .hbm, ⟨2, _⟩ => ⟨S768x512, .f32⟩
  | .local _ .vmem, ⟨0, _⟩ => ⟨S768x512, .f32⟩
  | .local _ .vmem, ⟨1, _⟩ => ⟨S512, .f32⟩
  | .local _ .vmem, ⟨2, _⟩ => ⟨S768x512, .f32⟩
  | .local _ .vmem, ⟨3, _⟩ => ⟨S16x768, .f32⟩
  | _, _ => ⟨S768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v203 : Index := Scalar.indexCast v2
  let c0_136 : Index := 0#32
  ![v203.toNat, 0]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_148 : BitVec 32 := 0#32
  ![v2.toNat, 0]
def k0_dev16 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_138 : BitVec 32 := 1#32
  let v207 : BitVec 32 := Scalar.addi v2 c1_i32_138
  let c16_i32_139 : BitVec 32 := 16#32
  let c0_i32_140 : BitVec 32 := 0#32
  let v208 : BitVec 1 := Scalar.cmpi .eq c16_i32_139 c0_i32_140
  let c1_i32_141 : BitVec 32 := 1#32
  let v209 : BitVec 32 := Scalar.select v208 c1_i32_141 c16_i32_139
  let v210 : BitVec 32 := Scalar.remsi v207 v209
  let c0_i32_143 : BitVec 32 := 0#32
  let v212 : BitVec 1 := Scalar.cmpi .slt v210 c0_i32_143
  let c0_i32_144 : BitVec 32 := 0#32
  let v213 : BitVec 1 := Scalar.cmpi .slt v209 c0_i32_144
  let v214 : BitVec 1 := Scalar.xori v212 v213
  let c0_i32_142 : BitVec 32 := 0#32
  let v211 : BitVec 1 := Scalar.cmpi .ne v210 c0_i32_142
  let v215 : BitVec 1 := Scalar.andi v214 v211
  let v216 : BitVec 32 := Scalar.addi v210 v209
  let v217 : BitVec 32 := Scalar.select v215 v216 v210
  let c1_i32_146 : BitVec 32 := 1#32
  let v218 : BitVec 32 := Scalar.muli v217 c1_i32_146
  let v219 : BitVec 32 := Scalar.addi c0_i32_147 v218
  v219.toNat
def k0_dev17 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_150 : BitVec 32 := 2#32
  let v228 : BitVec 32 := Scalar.addi v2 c2_i32_150
  let c16_i32_151 : BitVec 32 := 16#32
  let c0_i32_152 : BitVec 32 := 0#32
  let v229 : BitVec 1 := Scalar.cmpi .eq c16_i32_151 c0_i32_152
  let c1_i32_153 : BitVec 32 := 1#32
  let v230 : BitVec 32 := Scalar.select v229 c1_i32_153 c16_i32_151
  let v231 : BitVec 32 := Scalar.remsi v228 v230
  let c0_i32_155 : BitVec 32 := 0#32
  let v233 : BitVec 1 := Scalar.cmpi .slt v231 c0_i32_155
  let c0_i32_156 : BitVec 32 := 0#32
  let v234 : BitVec 1 := Scalar.cmpi .slt v230 c0_i32_156
  let v235 : BitVec 1 := Scalar.xori v233 v234
  let c0_i32_154 : BitVec 32 := 0#32
  let v232 : BitVec 1 := Scalar.cmpi .ne v231 c0_i32_154
  let v236 : BitVec 1 := Scalar.andi v235 v232
  let v237 : BitVec 32 := Scalar.addi v231 v230
  let v238 : BitVec 32 := Scalar.select v236 v237 v231
  let c1_i32_158 : BitVec 32 := 1#32
  let v239 : BitVec 32 := Scalar.muli v238 c1_i32_158
  let v240 : BitVec 32 := Scalar.addi c0_i32_159 v239
  v240.toNat
def k0_dev18 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_162 : BitVec 32 := 3#32
  let v249 : BitVec 32 := Scalar.addi v2 c3_i32_162
  let c16_i32_163 : BitVec 32 := 16#32
  let c0_i32_164 : BitVec 32 := 0#32
  let v250 : BitVec 1 := Scalar.cmpi .eq c16_i32_163 c0_i32_164
  let c1_i32_165 : BitVec 32 := 1#32
  let v251 : BitVec 32 := Scalar.select v250 c1_i32_165 c16_i32_163
  let v252 : BitVec 32 := Scalar.remsi v249 v251
  let c0_i32_167 : BitVec 32 := 0#32
  let v254 : BitVec 1 := Scalar.cmpi .slt v252 c0_i32_167
  let c0_i32_168 : BitVec 32 := 0#32
  let v255 : BitVec 1 := Scalar.cmpi .slt v251 c0_i32_168
  let v256 : BitVec 1 := Scalar.xori v254 v255
  let c0_i32_166 : BitVec 32 := 0#32
  let v253 : BitVec 1 := Scalar.cmpi .ne v252 c0_i32_166
  let v257 : BitVec 1 := Scalar.andi v256 v253
  let v258 : BitVec 32 := Scalar.addi v252 v251
  let v259 : BitVec 32 := Scalar.select v257 v258 v252
  let c1_i32_170 : BitVec 32 := 1#32
  let v260 : BitVec 32 := Scalar.muli v259 c1_i32_170
  let v261 : BitVec 32 := Scalar.addi c0_i32_171 v260
  v261.toNat
def k0_dev19 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_174 : BitVec 32 := 4#32
  let v270 : BitVec 32 := Scalar.addi v2 c4_i32_174
  let c16_i32_175 : BitVec 32 := 16#32
  let c0_i32_176 : BitVec 32 := 0#32
  let v271 : BitVec 1 := Scalar.cmpi .eq c16_i32_175 c0_i32_176
  let c1_i32_177 : BitVec 32 := 1#32
  let v272 : BitVec 32 := Scalar.select v271 c1_i32_177 c16_i32_175
  let v273 : BitVec 32 := Scalar.remsi v270 v272
  let c0_i32_179 : BitVec 32 := 0#32
  let v275 : BitVec 1 := Scalar.cmpi .slt v273 c0_i32_179
  let c0_i32_180 : BitVec 32 := 0#32
  let v276 : BitVec 1 := Scalar.cmpi .slt v272 c0_i32_180
  let v277 : BitVec 1 := Scalar.xori v275 v276
  let c0_i32_178 : BitVec 32 := 0#32
  let v274 : BitVec 1 := Scalar.cmpi .ne v273 c0_i32_178
  let v278 : BitVec 1 := Scalar.andi v277 v274
  let v279 : BitVec 32 := Scalar.addi v273 v272
  let v280 : BitVec 32 := Scalar.select v278 v279 v273
  let c1_i32_182 : BitVec 32 := 1#32
  let v281 : BitVec 32 := Scalar.muli v280 c1_i32_182
  let v282 : BitVec 32 := Scalar.addi c0_i32_183 v281
  v282.toNat
def k0_dev20 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_186 : BitVec 32 := 5#32
  let v291 : BitVec 32 := Scalar.addi v2 c5_i32_186
  let c16_i32_187 : BitVec 32 := 16#32
  let c0_i32_188 : BitVec 32 := 0#32
  let v292 : BitVec 1 := Scalar.cmpi .eq c16_i32_187 c0_i32_188
  let c1_i32_189 : BitVec 32 := 1#32
  let v293 : BitVec 32 := Scalar.select v292 c1_i32_189 c16_i32_187
  let v294 : BitVec 32 := Scalar.remsi v291 v293
  let c0_i32_191 : BitVec 32 := 0#32
  let v296 : BitVec 1 := Scalar.cmpi .slt v294 c0_i32_191
  let c0_i32_192 : BitVec 32 := 0#32
  let v297 : BitVec 1 := Scalar.cmpi .slt v293 c0_i32_192
  let v298 : BitVec 1 := Scalar.xori v296 v297
  let c0_i32_190 : BitVec 32 := 0#32
  let v295 : BitVec 1 := Scalar.cmpi .ne v294 c0_i32_190
  let v299 : BitVec 1 := Scalar.andi v298 v295
  let v300 : BitVec 32 := Scalar.addi v294 v293
  let v301 : BitVec 32 := Scalar.select v299 v300 v294
  let c1_i32_194 : BitVec 32 := 1#32
  let v302 : BitVec 32 := Scalar.muli v301 c1_i32_194
  let v303 : BitVec 32 := Scalar.addi c0_i32_195 v302
  v303.toNat
def k0_dev21 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_198 : BitVec 32 := 6#32
  let v312 : BitVec 32 := Scalar.addi v2 c6_i32_198
  let c16_i32_199 : BitVec 32 := 16#32
  let c0_i32_200 : BitVec 32 := 0#32
  let v313 : BitVec 1 := Scalar.cmpi .eq c16_i32_199 c0_i32_200
  let c1_i32_201 : BitVec 32 := 1#32
  let v314 : BitVec 32 := Scalar.select v313 c1_i32_201 c16_i32_199
  let v315 : BitVec 32 := Scalar.remsi v312 v314
  let c0_i32_203 : BitVec 32 := 0#32
  let v317 : BitVec 1 := Scalar.cmpi .slt v315 c0_i32_203
  let c0_i32_204 : BitVec 32 := 0#32
  let v318 : BitVec 1 := Scalar.cmpi .slt v314 c0_i32_204
  let v319 : BitVec 1 := Scalar.xori v317 v318
  let c0_i32_202 : BitVec 32 := 0#32
  let v316 : BitVec 1 := Scalar.cmpi .ne v315 c0_i32_202
  let v320 : BitVec 1 := Scalar.andi v319 v316
  let v321 : BitVec 32 := Scalar.addi v315 v314
  let v322 : BitVec 32 := Scalar.select v320 v321 v315
  let c1_i32_206 : BitVec 32 := 1#32
  let v323 : BitVec 32 := Scalar.muli v322 c1_i32_206
  let v324 : BitVec 32 := Scalar.addi c0_i32_207 v323
  v324.toNat
def k0_dev22 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_210 : BitVec 32 := 7#32
  let v333 : BitVec 32 := Scalar.addi v2 c7_i32_210
  let c16_i32_211 : BitVec 32 := 16#32
  let c0_i32_212 : BitVec 32 := 0#32
  let v334 : BitVec 1 := Scalar.cmpi .eq c16_i32_211 c0_i32_212
  let c1_i32_213 : BitVec 32 := 1#32
  let v335 : BitVec 32 := Scalar.select v334 c1_i32_213 c16_i32_211
  let v336 : BitVec 32 := Scalar.remsi v333 v335
  let c0_i32_215 : BitVec 32 := 0#32
  let v338 : BitVec 1 := Scalar.cmpi .slt v336 c0_i32_215
  let c0_i32_216 : BitVec 32 := 0#32
  let v339 : BitVec 1 := Scalar.cmpi .slt v335 c0_i32_216
  let v340 : BitVec 1 := Scalar.xori v338 v339
  let c0_i32_214 : BitVec 32 := 0#32
  let v337 : BitVec 1 := Scalar.cmpi .ne v336 c0_i32_214
  let v341 : BitVec 1 := Scalar.andi v340 v337
  let v342 : BitVec 32 := Scalar.addi v336 v335
  let v343 : BitVec 32 := Scalar.select v341 v342 v336
  let c1_i32_218 : BitVec 32 := 1#32
  let v344 : BitVec 32 := Scalar.muli v343 c1_i32_218
  let v345 : BitVec 32 := Scalar.addi c0_i32_219 v344
  v345.toNat
def k0_dev23 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_222 : BitVec 32 := 8#32
  let v354 : BitVec 32 := Scalar.addi v2 c8_i32_222
  let c16_i32_223 : BitVec 32 := 16#32
  let c0_i32_224 : BitVec 32 := 0#32
  let v355 : BitVec 1 := Scalar.cmpi .eq c16_i32_223 c0_i32_224
  let c1_i32_225 : BitVec 32 := 1#32
  let v356 : BitVec 32 := Scalar.select v355 c1_i32_225 c16_i32_223
  let v357 : BitVec 32 := Scalar.remsi v354 v356
  let c0_i32_227 : BitVec 32 := 0#32
  let v359 : BitVec 1 := Scalar.cmpi .slt v357 c0_i32_227
  let c0_i32_228 : BitVec 32 := 0#32
  let v360 : BitVec 1 := Scalar.cmpi .slt v356 c0_i32_228
  let v361 : BitVec 1 := Scalar.xori v359 v360
  let c0_i32_226 : BitVec 32 := 0#32
  let v358 : BitVec 1 := Scalar.cmpi .ne v357 c0_i32_226
  let v362 : BitVec 1 := Scalar.andi v361 v358
  let v363 : BitVec 32 := Scalar.addi v357 v356
  let v364 : BitVec 32 := Scalar.select v362 v363 v357
  let c1_i32_230 : BitVec 32 := 1#32
  let v365 : BitVec 32 := Scalar.muli v364 c1_i32_230
  let v366 : BitVec 32 := Scalar.addi c0_i32_231 v365
  v366.toNat
def k0_dev24 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_234 : BitVec 32 := 9#32
  let v375 : BitVec 32 := Scalar.addi v2 c9_i32_234
  let c16_i32_235 : BitVec 32 := 16#32
  let c0_i32_236 : BitVec 32 := 0#32
  let v376 : BitVec 1 := Scalar.cmpi .eq c16_i32_235 c0_i32_236
  let c1_i32_237 : BitVec 32 := 1#32
  let v377 : BitVec 32 := Scalar.select v376 c1_i32_237 c16_i32_235
  let v378 : BitVec 32 := Scalar.remsi v375 v377
  let c0_i32_239 : BitVec 32 := 0#32
  let v380 : BitVec 1 := Scalar.cmpi .slt v378 c0_i32_239
  let c0_i32_240 : BitVec 32 := 0#32
  let v381 : BitVec 1 := Scalar.cmpi .slt v377 c0_i32_240
  let v382 : BitVec 1 := Scalar.xori v380 v381
  let c0_i32_238 : BitVec 32 := 0#32
  let v379 : BitVec 1 := Scalar.cmpi .ne v378 c0_i32_238
  let v383 : BitVec 1 := Scalar.andi v382 v379
  let v384 : BitVec 32 := Scalar.addi v378 v377
  let v385 : BitVec 32 := Scalar.select v383 v384 v378
  let c1_i32_242 : BitVec 32 := 1#32
  let v386 : BitVec 32 := Scalar.muli v385 c1_i32_242
  let v387 : BitVec 32 := Scalar.addi c0_i32_243 v386
  v387.toNat
def k0_dev25 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_246 : BitVec 32 := 10#32
  let v396 : BitVec 32 := Scalar.addi v2 c10_i32_246
  let c16_i32_247 : BitVec 32 := 16#32
  let c0_i32_248 : BitVec 32 := 0#32
  let v397 : BitVec 1 := Scalar.cmpi .eq c16_i32_247 c0_i32_248
  let c1_i32_249 : BitVec 32 := 1#32
  let v398 : BitVec 32 := Scalar.select v397 c1_i32_249 c16_i32_247
  let v399 : BitVec 32 := Scalar.remsi v396 v398
  let c0_i32_251 : BitVec 32 := 0#32
  let v401 : BitVec 1 := Scalar.cmpi .slt v399 c0_i32_251
  let c0_i32_252 : BitVec 32 := 0#32
  let v402 : BitVec 1 := Scalar.cmpi .slt v398 c0_i32_252
  let v403 : BitVec 1 := Scalar.xori v401 v402
  let c0_i32_250 : BitVec 32 := 0#32
  let v400 : BitVec 1 := Scalar.cmpi .ne v399 c0_i32_250
  let v404 : BitVec 1 := Scalar.andi v403 v400
  let v405 : BitVec 32 := Scalar.addi v399 v398
  let v406 : BitVec 32 := Scalar.select v404 v405 v399
  let c1_i32_254 : BitVec 32 := 1#32
  let v407 : BitVec 32 := Scalar.muli v406 c1_i32_254
  let v408 : BitVec 32 := Scalar.addi c0_i32_255 v407
  v408.toNat
def k0_dev26 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_258 : BitVec 32 := 11#32
  let v417 : BitVec 32 := Scalar.addi v2 c11_i32_258
  let c16_i32_259 : BitVec 32 := 16#32
  let c0_i32_260 : BitVec 32 := 0#32
  let v418 : BitVec 1 := Scalar.cmpi .eq c16_i32_259 c0_i32_260
  let c1_i32_261 : BitVec 32 := 1#32
  let v419 : BitVec 32 := Scalar.select v418 c1_i32_261 c16_i32_259
  let v420 : BitVec 32 := Scalar.remsi v417 v419
  let c0_i32_263 : BitVec 32 := 0#32
  let v422 : BitVec 1 := Scalar.cmpi .slt v420 c0_i32_263
  let c0_i32_264 : BitVec 32 := 0#32
  let v423 : BitVec 1 := Scalar.cmpi .slt v419 c0_i32_264
  let v424 : BitVec 1 := Scalar.xori v422 v423
  let c0_i32_262 : BitVec 32 := 0#32
  let v421 : BitVec 1 := Scalar.cmpi .ne v420 c0_i32_262
  let v425 : BitVec 1 := Scalar.andi v424 v421
  let v426 : BitVec 32 := Scalar.addi v420 v419
  let v427 : BitVec 32 := Scalar.select v425 v426 v420
  let c1_i32_266 : BitVec 32 := 1#32
  let v428 : BitVec 32 := Scalar.muli v427 c1_i32_266
  let v429 : BitVec 32 := Scalar.addi c0_i32_267 v428
  v429.toNat
def k0_dev27 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_270 : BitVec 32 := 12#32
  let v438 : BitVec 32 := Scalar.addi v2 c12_i32_270
  let c16_i32_271 : BitVec 32 := 16#32
  let c0_i32_272 : BitVec 32 := 0#32
  let v439 : BitVec 1 := Scalar.cmpi .eq c16_i32_271 c0_i32_272
  let c1_i32_273 : BitVec 32 := 1#32
  let v440 : BitVec 32 := Scalar.select v439 c1_i32_273 c16_i32_271
  let v441 : BitVec 32 := Scalar.remsi v438 v440
  let c0_i32_275 : BitVec 32 := 0#32
  let v443 : BitVec 1 := Scalar.cmpi .slt v441 c0_i32_275
  let c0_i32_276 : BitVec 32 := 0#32
  let v444 : BitVec 1 := Scalar.cmpi .slt v440 c0_i32_276
  let v445 : BitVec 1 := Scalar.xori v443 v444
  let c0_i32_274 : BitVec 32 := 0#32
  let v442 : BitVec 1 := Scalar.cmpi .ne v441 c0_i32_274
  let v446 : BitVec 1 := Scalar.andi v445 v442
  let v447 : BitVec 32 := Scalar.addi v441 v440
  let v448 : BitVec 32 := Scalar.select v446 v447 v441
  let c1_i32_278 : BitVec 32 := 1#32
  let v449 : BitVec 32 := Scalar.muli v448 c1_i32_278
  let v450 : BitVec 32 := Scalar.addi c0_i32_279 v449
  v450.toNat
def k0_dev28 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_282 : BitVec 32 := 13#32
  let v459 : BitVec 32 := Scalar.addi v2 c13_i32_282
  let c16_i32_283 : BitVec 32 := 16#32
  let c0_i32_284 : BitVec 32 := 0#32
  let v460 : BitVec 1 := Scalar.cmpi .eq c16_i32_283 c0_i32_284
  let c1_i32_285 : BitVec 32 := 1#32
  let v461 : BitVec 32 := Scalar.select v460 c1_i32_285 c16_i32_283
  let v462 : BitVec 32 := Scalar.remsi v459 v461
  let c0_i32_287 : BitVec 32 := 0#32
  let v464 : BitVec 1 := Scalar.cmpi .slt v462 c0_i32_287
  let c0_i32_288 : BitVec 32 := 0#32
  let v465 : BitVec 1 := Scalar.cmpi .slt v461 c0_i32_288
  let v466 : BitVec 1 := Scalar.xori v464 v465
  let c0_i32_286 : BitVec 32 := 0#32
  let v463 : BitVec 1 := Scalar.cmpi .ne v462 c0_i32_286
  let v467 : BitVec 1 := Scalar.andi v466 v463
  let v468 : BitVec 32 := Scalar.addi v462 v461
  let v469 : BitVec 32 := Scalar.select v467 v468 v462
  let c1_i32_290 : BitVec 32 := 1#32
  let v470 : BitVec 32 := Scalar.muli v469 c1_i32_290
  let v471 : BitVec 32 := Scalar.addi c0_i32_291 v470
  v471.toNat
def k0_dev29 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_294 : BitVec 32 := 14#32
  let v480 : BitVec 32 := Scalar.addi v2 c14_i32_294
  let c16_i32_295 : BitVec 32 := 16#32
  let c0_i32_296 : BitVec 32 := 0#32
  let v481 : BitVec 1 := Scalar.cmpi .eq c16_i32_295 c0_i32_296
  let c1_i32_297 : BitVec 32 := 1#32
  let v482 : BitVec 32 := Scalar.select v481 c1_i32_297 c16_i32_295
  let v483 : BitVec 32 := Scalar.remsi v480 v482
  let c0_i32_299 : BitVec 32 := 0#32
  let v485 : BitVec 1 := Scalar.cmpi .slt v483 c0_i32_299
  let c0_i32_300 : BitVec 32 := 0#32
  let v486 : BitVec 1 := Scalar.cmpi .slt v482 c0_i32_300
  let v487 : BitVec 1 := Scalar.xori v485 v486
  let c0_i32_298 : BitVec 32 := 0#32
  let v484 : BitVec 1 := Scalar.cmpi .ne v483 c0_i32_298
  let v488 : BitVec 1 := Scalar.andi v487 v484
  let v489 : BitVec 32 := Scalar.addi v483 v482
  let v490 : BitVec 32 := Scalar.select v488 v489 v483
  let c1_i32_302 : BitVec 32 := 1#32
  let v491 : BitVec 32 := Scalar.muli v490 c1_i32_302
  let v492 : BitVec 32 := Scalar.addi c0_i32_303 v491
  v492.toNat
def k0_dev30 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_306 : BitVec 32 := 15#32
  let v501 : BitVec 32 := Scalar.addi v2 c15_i32_306
  let c16_i32_307 : BitVec 32 := 16#32
  let c0_i32_308 : BitVec 32 := 0#32
  let v502 : BitVec 1 := Scalar.cmpi .eq c16_i32_307 c0_i32_308
  let c1_i32_309 : BitVec 32 := 1#32
  let v503 : BitVec 32 := Scalar.select v502 c1_i32_309 c16_i32_307
  let v504 : BitVec 32 := Scalar.remsi v501 v503
  let c0_i32_311 : BitVec 32 := 0#32
  let v506 : BitVec 1 := Scalar.cmpi .slt v504 c0_i32_311
  let c0_i32_312 : BitVec 32 := 0#32
  let v507 : BitVec 1 := Scalar.cmpi .slt v503 c0_i32_312
  let v508 : BitVec 1 := Scalar.xori v506 v507
  let c0_i32_310 : BitVec 32 := 0#32
  let v505 : BitVec 1 := Scalar.cmpi .ne v504 c0_i32_310
  let v509 : BitVec 1 := Scalar.andi v508 v505
  let v510 : BitVec 32 := Scalar.addi v504 v503
  let v511 : BitVec 32 := Scalar.select v509 v510 v504
  let c1_i32_314 : BitVec 32 := 1#32
  let v512 : BitVec 32 := Scalar.muli v511 c1_i32_314
  let v513 : BitVec 32 := Scalar.addi c0_i32_315 v512
  v513.toNat
def k0_off4 (d0 : Dev nD) (c1_i32_319 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v527 : BitVec 32 := Scalar.subi v2 c1_i32_319
  let c16_i32_320 : BitVec 32 := 16#32
  let c0_i32_321 : BitVec 32 := 0#32
  let v528 : BitVec 1 := Scalar.cmpi .eq c16_i32_320 c0_i32_321
  let c1_i32_322 : BitVec 32 := 1#32
  let v529 : BitVec 32 := Scalar.select v528 c1_i32_322 c16_i32_320
  let v530 : BitVec 32 := Scalar.remsi v527 v529
  let c0_i32_324 : BitVec 32 := 0#32
  let v532 : BitVec 1 := Scalar.cmpi .slt v530 c0_i32_324
  let c0_i32_325 : BitVec 32 := 0#32
  let v533 : BitVec 1 := Scalar.cmpi .slt v529 c0_i32_325
  let v534 : BitVec 1 := Scalar.xori v532 v533
  let c0_i32_323 : BitVec 32 := 0#32
  let v531 : BitVec 1 := Scalar.cmpi .ne v530 c0_i32_323
  let v535 : BitVec 1 := Scalar.andi v534 v531
  let v536 : BitVec 32 := Scalar.addi v530 v529
  let v537 : BitVec 32 := Scalar.select v535 v536 v530
  ![v537.toNat]
def k0_off5 (d0 : Dev nD) (c1_i32_319 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v527 : BitVec 32 := Scalar.subi v2 c1_i32_319
  let c16_i32_320 : BitVec 32 := 16#32
  let c0_i32_321 : BitVec 32 := 0#32
  let v528 : BitVec 1 := Scalar.cmpi .eq c16_i32_320 c0_i32_321
  let c1_i32_322 : BitVec 32 := 1#32
  let v529 : BitVec 32 := Scalar.select v528 c1_i32_322 c16_i32_320
  let v530 : BitVec 32 := Scalar.remsi v527 v529
  let c0_i32_324 : BitVec 32 := 0#32
  let v532 : BitVec 1 := Scalar.cmpi .slt v530 c0_i32_324
  let c0_i32_325 : BitVec 32 := 0#32
  let v533 : BitVec 1 := Scalar.cmpi .slt v529 c0_i32_325
  let v534 : BitVec 1 := Scalar.xori v532 v533
  let c0_i32_323 : BitVec 32 := 0#32
  let v531 : BitVec 1 := Scalar.cmpi .ne v530 c0_i32_323
  let v535 : BitVec 1 := Scalar.andi v534 v531
  let v536 : BitVec 32 := Scalar.addi v530 v529
  let v537 : BitVec 32 := Scalar.select v535 v536 v530
  let c0_i32_329 : BitVec 32 := 0#32
  ![v537.toNat, 0]
abbrev stage0_0 : Fin 1 → Memref sig .tc .vmem S768x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x8192 : Shape := ⟨2, ![768, 8192]⟩
abbrev S8192 : Shape := ⟨1, ![8192]⟩
abbrev S_ : Shape := ⟨0, ![]⟩
abbrev S768 : Shape := ⟨1, ![768]⟩
abbrev S768x1 : Shape := ⟨2, ![768, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S768x8192, .f32⟩
  | .hbm, ⟨1, _⟩ => ⟨S8192, .f32⟩
  | .hbm, ⟨2, _⟩ => ⟨S768x8192, .f32⟩
  | .hbm, ⟨3, _⟩ => ⟨S_, .f32⟩
  | .hbm, ⟨4, _⟩ => ⟨S768, .f32⟩
  | .hbm, ⟨5, _⟩ => ⟨S768x1, .f32⟩
  | .hbm, ⟨6, _⟩ => ⟨S_, .f32⟩
  | .hbm, ⟨7, _⟩ => ⟨S768x1, .f32⟩
  | .hbm, ⟨8, _⟩ => ⟨S768x1, .f32⟩
  | .hbm, ⟨9, _⟩ => ⟨S_, .f32⟩
  | .hbm, ⟨10, _⟩ => ⟨S768x1, .f32⟩
  | .hbm, ⟨11, _⟩ => ⟨S768x1, .f32⟩
  | .hbm, ⟨12, _⟩ => ⟨S768x1, .f32⟩
  | .hbm, ⟨13, _⟩ => ⟨S1x8192, .f32⟩
  | .hbm, ⟨14, _⟩ => ⟨S768x8192, .f32⟩
  | .hbm, ⟨15, _⟩ => ⟨S768x8192, .f32⟩
  | .hbm, ⟨16, _⟩ => ⟨S768x8192, .f32⟩
  | .hbm, ⟨17, _⟩ => ⟨S768x8192, .f32⟩
  | _, _ => ⟨S768x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.KernelIdeal.Cells.lean ====
/-
The kernel's neighbours, rows and semaphores, and the schedule of its cross-device protocol.

Sixteen devices hold one block of 512 columns each. Every device sums the squares of its block row by row, writes the
768 sums into its own row of a 16 x 768 buffer, and copies that row into the same row of each other device's buffer;
when the fifteen rows of the others have arrived it adds the sixteen up. A device is reached by its offset: the
fifteen offsets `o = 0 .. 14` stand for the distances 1 .. 15, `up c o` is the device that far after `c` and
`down c o` the one that far before.

Who waits, who signals, and what is handed over:

* the entry barrier of a device takes one unit from each other device. The unit of device `d` hands device `c` row
  `c` of `d`'s buffer, into which `c` will copy;
* the send semaphore `o` of a device takes the bytes of its copy to `up c o`, and gives back the share of the row that
  the copy read;
* the receive semaphore `s` of a device takes the bytes of the copy from device `s`, and hands over row `s` of the
  device's own buffer, holding the sums of device `s`. A device's own receive semaphore is never used.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.ValueIdxCore
public import Idealize.ShloMosaic.Lib.Tactic

@[expose] public section

noncomputable section

namespace Cert.KernelIdeal.Norm

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's copy of the rounds algebra; a duty is named by an offset. -/
abbrev UB : Type := URounds (GSem nD τ sig) (Fin 15)
/-- The two copies: the pipeline's and the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Neighbours -/

/-- The device `o + 1` places after `c`. -/
def up (c : Dev nD) (o : Fin 15) : Dev nD := ⟨(c.val + o.val + 1) % 16, Nat.mod_lt _ (by decide)⟩
/-- The device `o + 1` places before `c`. -/
def down (c : Dev nD) (o : Fin 15) : Dev nD := ⟨(c.val + 15 - o.val) % 16, Nat.mod_lt _ (by decide)⟩

theorem up_down (c : Dev nD) (o : Fin 15) : up (down c o) o = c := by revert c o; decide
theorem down_up (c : Dev nD) (o : Fin 15) : down (up c o) o = c := by revert c o; decide
/-- Going up by an offset and then by the complementary one goes once around. -/
theorem up_up_rev (c : Dev nD) (o : Fin 15) : up (up c o) o.rev = c := by revert c o; decide
theorem up_rev (c : Dev nD) (o : Fin 15) : up c o.rev = down c o := by revert c o; decide
theorem up_ne (c : Dev nD) (o : Fin 15) : up c o ≠ c := by revert c o; decide
theorem down_ne (c : Dev nD) (o : Fin 15) : down c o ≠ c := by revert c o; decide
theorem up_inj (o : Fin 15) : Function.Injective fun c : Dev nD => up c o :=
  fun a b h => by have := congrArg (fun d => down d o) h; simpa only [down_up] using this
theorem down_off_inj (c : Dev nD) : Function.Injective (down c) := by revert c; decide
theorem up_off_inj (c : Dev nD) : Function.Injective (up c) := by revert c; decide
/-- The devices are `c` and those the fifteen offsets before it. -/
theorem univ_eq_down (c : Dev nD) : (Finset.univ : Finset (Dev nD)) = insert c (Finset.univ.map ⟨down c, down_off_inj c⟩) := by
  revert c; decide
theorem univ_eq_up (c : Dev nD) : (Finset.univ : Finset (Dev nD)) = insert c (Finset.univ.map ⟨up c, up_off_inj c⟩) := by
  revert c; decide
theorem not_mem_down (c : Dev nD) : c ∉ Finset.univ.map ⟨down c, down_off_inj c⟩ := fun h => by
  obtain ⟨o, -, ho⟩ := Finset.mem_map.mp h; exact down_ne c o ho
theorem not_mem_up (c : Dev nD) : c ∉ Finset.univ.map ⟨up c, up_off_inj c⟩ := fun h => by
  obtain ⟨o, -, ho⟩ := Finset.mem_map.mp h; exact up_ne c o ho

/-- A device computed by the kernel's integer chain is the one an offset after its own. -/
theorem dev_eq (f : Dev nD → Nat) (o : Fin 15) (h : ∀ c, f c = (up c o).val) (c : Dev nD) (hlt : f c < nD) :
    (⟨f c, hlt⟩ : Dev nD) = up c o := Fin.ext (h c)

/-! ## Conjunctions over the devices and over the offsets -/

section Big
variable {M : Type} [URA M]

/-- Over the devices: `c`'s and those of the devices before it. -/
theorem bigSep_dev_down (c : Dev nD) (Φ : Dev nD → sProp M) :
    bigSep Finset.univ Φ = iprop(Φ c ∗ bigSep Finset.univ fun o : Fin 15 => Φ (down c o)) := by
  rw [univ_eq_down c]; refine (bigSep_insert (not_mem_down c)).trans ?_; rw [bigSep_map]; rfl
/-- Over the devices: `c`'s and those of the devices after it. -/
theorem bigSep_dev_up (c : Dev nD) (Φ : Dev nD → sProp M) :
    bigSep Finset.univ Φ = iprop(Φ c ∗ bigSep Finset.univ fun o : Fin 15 => Φ (up c o)) := by
  rw [univ_eq_up c]; refine (bigSep_insert (not_mem_up c)).trans ?_; rw [bigSep_map]; rfl

end Big

/-- The offsets from the `k`-th on, -/
def ge (k : ℕ) : Finset (Fin 15) := Finset.univ.filter fun o => k ≤ o.val
/-- and those before it. -/
def lt (k : ℕ) : Finset (Fin 15) := Finset.univ.filter fun o => o.val < k

theorem ge_zero : ge 0 = Finset.univ := by decide
theorem ge_last : ge 15 = ∅ := by decide
theorem lt_zero : lt 0 = ∅ := by decide
theorem lt_last : lt 15 = Finset.univ := by decide
theorem ge_step (o : Fin 15) : ge o.val = insert o (ge (o.val + 1)) := by revert o; decide
theorem lt_step (o : Fin 15) : lt (o.val + 1) = insert o (lt o.val) := by revert o; decide
theorem not_mem_ge (o : Fin 15) : o ∉ ge (o.val + 1) := by revert o; decide
theorem not_mem_lt (o : Fin 15) : o ∉ lt o.val := by revert o; decide

section Big
variable {M : Type} [URA M]
theorem bigSep_ge_step (o : Fin 15) (Φ : Fin 15 → sProp M) : bigSep (ge o.val) Φ = iprop(Φ o ∗ bigSep (ge (o.val + 1)) Φ) := by
  rw [ge_step]; exact bigSep_insert (not_mem_ge o)
theorem bigSep_lt_step (o : Fin 15) (Φ : Fin 15 → sProp M) : bigSep (lt (o.val + 1)) Φ = iprop(Φ o ∗ bigSep (lt o.val) Φ) := by
  rw [lt_step]; exact bigSep_insert (not_mem_lt o)
end Big

/-! ## Memrefs, rows -/

abbrev xM : Memref sig .tc .vmem S768x512 .f32 := Memref.whole cc0_stg0_0
abbrev gM : Memref sig .tc .vmem S512 .f32 := Memref.whole cc0_stg1_0
abbrev oM : Memref sig .tc .vmem S768x512 .f32 := Memref.whole cc0_stg2_0
abbrev pM : Memref sig .tc .vmem S16x768 .f32 := Memref.whole cc0_scratch0

theorem row_inb (s : Dev nD) : ∀ a, (![s.val, 0] : Fin 2 → Nat) a + S1x768.size a ≤ S16x768.size a := by revert s; decide

/-- Row `s` of the buffer of sums, as the copies name it. -/
abbrev row (s : Dev nD) : Memref sig .tc .vmem S768 .f32 :=
  (pM.slice (Rect.unit (s := S16x768) ![s.val, 0] S1x768.size (row_inb s)) (fun _ => rfl)).squeeze S768 squeezes_S1x768_S768

/-- The kernel's spelling of a row, at an offset it computed. -/
theorem row_eq {off : Fin 2 → Nat} (s : Dev nD) (h : off = ![s.val, 0]) (inb : ∀ a, off a + S1x768.size a ≤ S16x768.size a) :
    (pM.slice (Rect.unit (s := S16x768) off S1x768.size inb) (fun _ => rfl)).squeeze S768 squeezes_S1x768_S768 = row s := by
  subst h; rfl

theorem mem_row {s : Dev nD} {i : S16x768.Idx} : i ∈ (row s).view.set ↔ (i 0).val = s.val := by
  have h : (row s).view.set = (Rect.unit (s := S16x768) ![s.val, 0] S1x768.size (row_inb s)).set := by
    show ((View.whole cc0_scratch0).slice (Rect.unit (s := S16x768) ![s.val, 0] S1x768.size (row_inb s)) |>.reshape S768 _).set = _
    rw [View.set_reshape, View.set_slice_whole]
  rw [h, Rect.mem_set_unit]
  constructor
  · intro H; have := H 0; simp at this; omega
  · intro H a; fin_cases a
    · simp; omega
    · have := (i 1).isLt; simp at this ⊢; exact this

theorem rows_disjoint : ∀ s ∈ (Finset.univ : Finset (Dev nD)), ∀ s' ∈ (Finset.univ : Finset (Dev nD)), s ≠ s' → Disjoint (row s).view.set (row s').view.set :=
  fun s _ s' _ hn => Finset.disjoint_left.mpr fun i hi hi' => hn (Fin.ext ((mem_row.mp hi).symm.trans (mem_row.mp hi')))
theorem rows_cover : (Finset.univ : Finset (Dev nD)).biUnion (fun s => (row s).view.set) = (Finset.univ : Finset S16x768.Idx) :=
  Finset.ext fun i => iff_of_true (Finset.mem_biUnion.mpr ⟨⟨(i 0).val, (i 0).isLt⟩, Finset.mem_univ _, mem_row.mpr rfl⟩) (Finset.mem_univ i)

/-- Row `s` of device `d`'s buffer, held at share `q` and contents `f`. -/
def rowPts (d s : Dev nD) (q : PosShare TreeShare) (f : (cc0_scratch0 : Ref sig .tc).ty.Contents (Elt F)) : sProp 𝕄 :=
  (row s).view.loc (d : Thread nD τ) ↦[(row s).view.set]{q} f

omit [FloatOps F] in
instance rowPts_storable (d s : Dev nD) (q) (f) : BI.Storable (upEmb : UEmb _ 𝕄) (rowPts (F := F) d s q f) := by unfold rowPts; infer_instance

omit [FloatOps F] in
/-- A whole buffer is its sixteen rows. -/
theorem rows_eq (d : Dev nD) (q : PosShare TreeShare) (f : (cc0_scratch0 : Ref sig .tc).ty.Contents (Elt F)) :
    (((d : Thread nD τ).loc cc0_scratch0) ↦{q} f : sProp 𝕄) = bigSep Finset.univ fun s : Dev nD => rowPts d s q f := by
  unfold rowPts
  rw [← pointsTo_biUnion (ℓ := (d : Thread nD τ).loc cc0_scratch0) Finset.univ (fun s : Dev nD => (row s).view.set) rows_disjoint]
  exact congrArg (fun S => ((d : Thread nD τ).loc cc0_scratch0 ↦[S]{q} f : sProp 𝕄)) rows_cover.symm

omit [FloatOps F] in
theorem rowPts_congr (d s : Dev nD) (q : PosShare TreeShare) {f g : (cc0_scratch0 : Ref sig .tc).ty.Contents (Elt F)}
    (h : ∀ i : S16x768.Idx, (i 0).val = s.val → f i = g i) : (rowPts d s q f : sProp 𝕄) = rowPts d s q g := by
  unfold rowPts; exact pointsTo_congr fun i hi => h i (mem_row.mp hi)

omit [FloatOps F] in
/-- A row written with what was read off the same row of another buffer holds what that row held. -/
theorem rowPts_landed (d s : Dev nD) (q : PosShare TreeShare) (fd fs : (cc0_scratch0 : Ref sig .tc).ty.Contents (Elt F)) :
    (rowPts d s q ((row s).view.write (Elt F) fd ((row s).view.read (Elt F) fs) Finset.univ) : sProp 𝕄) = rowPts d s q fs := by
  unfold rowPts
  refine pointsTo_congr fun i hi => ?_
  obtain ⟨x, -, rfl⟩ := Finset.mem_map.mp hi
  rw [View.write_emb_of_mem _ _ (Finset.mem_univ _), View.read_apply]
  rfl

end Cert.KernelIdeal.Norm

end
-- ==== Proof.KernelIdeal.Schedule.lean ====
/-
The schedule of the protocol (what each semaphore's one round is paid with and hands over), what a device owes when
it starts, and the order in which the waits may happen: the barrier before the receive semaphores.
-/
module

public import proofs.«01_k».proof.Proof.KernelIdeal.Cells

@[expose] public section

noncomputable section

namespace Cert.KernelIdeal.Norm

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## Contents -/

/-- Device `c`'s block of the input, as its staging buffer holds it. -/
def xstg (c : Dev nD) : (cc0_stg0_0 : Ref sig .tc).ty.Contents (Elt F) :=
  (win0_0.blk t0_0).view.read (Elt F) (m ((c : Thread nD τ).loc main_arg0))
/-- Device `c`'s block of the scales. -/
def gstg (c : Dev nD) : (cc0_stg1_0 : Ref sig .tc).ty.Contents (Elt F) :=
  (win0_1.blk t0_0).view.read (Elt F) (m ((c : Thread nD τ).loc main_arg1))

/-- What every device's buffer of sums holds in the end: in row `s` the sums of squares of device `s`'s block. -/
def sums : (cc0_scratch0 : Ref sig .tc).ty.Contents (Elt F) :=
  fun i : S16x768.Idx => k0_pay2 (xstg m ⟨(i 0).val, (i 0).isLt⟩) (ix2 (0 : Fin 1) (⟨(i 1).val, (i 1).isLt⟩ : Fin 768))

/-- The kernel's result on device `c`. -/
def outAt (c : Dev nD) : (cc0_stg2_0 : Ref sig .tc).ty.Contents (Elt F) :=
  k0_pay4 (k0_pay3 (k0_pay1 (xstg m c)) (gstg m c)) (sums m)

/-! ## Semaphores and cells -/

abbrev barS : Sem sig := barrier0
def sendS (o : Fin 15) : DmaSem sig := (⟨3 + o.val, by have := o.isLt; omega⟩ : Fin 34)
def recvS (s : Dev nD) : DmaSem sig := (⟨18 + s.val, Nat.add_lt_add_left (s.isLt : s.val < 16) 18⟩ : Fin 34)

abbrev barCell (c : Dev nD) : GSem nD τ sig := ((c : Thread nD τ), .reg barS)
abbrev sendCell (c : Dev nD) (o : Fin 15) : GSem nD τ sig := ((c : Thread nD τ), .dma (sendS o))
abbrev recvCell (c s : Dev nD) : GSem nD τ sig := ((c : Thread nD τ), .dma (recvS s))

theorem sendS_val (o : Fin 15) : (sendS o : Fin 34).val = 3 + o.val := rfl
theorem recvS_val (s : Dev nD) : (recvS s : Fin 34).val = 18 + s.val := rfl

/-- The kernel's spellings of the semaphores, the index a constant or computed. -/
theorem sendS_eq (o : Fin 15) {off : Fin 1 → Nat} (h : off = ![o.val]) (inb : ∀ a, off a + S1.size a ≤ S15.size a) :
    ((cc0_scratch1.slice (Rect.unit (s := S15) off S1.size inb)).squeeze S_ squeezes_S1_S_).sem = sendS o := by
  subst h; revert o; decide
theorem recvS_eq (s : Dev nD) {off : Fin 1 → Nat} (h : off = ![s.val]) (inb : ∀ a, off a + S1.size a ≤ S16.size a) :
    ((cc0_scratch2.slice (Rect.unit (s := S16) off S1.size inb)).squeeze S_ squeezes_S1_S_).sem = recvS s := by
  subst h; revert s; decide

/-- What one row's copy counts on a semaphore. -/
def N : ℕ := (row 0).view.dmaCredit
theorem N_pos : 0 < N := View.dmaCredit_pos _ (by decide)
theorem row_credit (s : Dev nD) : (row s).view.dmaCredit = N := rfl

/-! ## The schedule -/

/-- The duties of device `c`'s semaphores in their one round: fifteen of the barrier, one of each send semaphore, one
    of each receive semaphore but the device's own. -/
def dutiesOf (c : Dev nD) : SemLoc sig → Finset (Fin 15)
  | .reg _ => Finset.univ
  | .dma q => if (q : Fin 34).val < 3 then ∅ else if (q : Fin 34).val < 18 then {0} else if (q : Fin 34).val = 18 + c.val then ∅ else {0}
/-- What a duty adds. -/
def amountOf : SemLoc sig → ℕ
  | .reg _ => 1
  | .dma _ => N
/-- What a duty hands over. -/
def payOf (c : Dev nD) : SemLoc sig → Fin 15 → sProp 𝕄
  | .reg _, o => iprop(∃ f, rowPts (up c o) c fullShare f)
  | .dma q, _ => if (q : Fin 34).val < 18 then rowPts c c (shareTokN fullShare ((q : Fin 34).val - 3)) (sums m)
      else rowPts c (Fin.ofNat 16 ((q : Fin 34).val - 18)) fullShare (sums m)

/-- The schedule: one round, of TensorCore semaphores only. -/
def Rd : Rounds.Schedule (GSem nD τ sig) (Fin 15) 𝕄 where
  duties g r := if r = 0 ∧ g.1.2 = .tc then dutiesOf g.1.1 g.2 else ∅
  unitless _ := False
  amount g _ _ := amountOf g.2
  payload g _ o := payOf m g.1.1 g.2 o
  amount_pos g _ _ _ := by
    rcases g with ⟨_, _ | _⟩
    · exact Nat.one_pos
    · exact N_pos

instance Rd_storable (g : GSem nD τ sig) (r : ℕ) (o : Fin 15) : BI.Storable (upEmb : UEmb _ 𝕄) ((Rd m).payload g r o) := by
  show BI.Storable upEmb (payOf m g.1.1 g.2 o)
  rcases g with ⟨_, _ | q⟩
  · unfold payOf; infer_instance
  · unfold payOf; dsimp only
    by_cases hq : (q : Fin 34).val < 18
    · rw [if_pos hq]; infer_instance
    · rw [if_neg hq]; infer_instance

section Sched
variable (c s : Dev nD) (o : Fin 15)

omit [FloatOps F] in
theorem shareTok_eq (q : PosShare TreeShare) (n : ℕ) (i : Fin n) : shareTok q n i = shareTokN q i.val := rfl

theorem duties_later (g : GSem nD τ sig) : ∀ r, 1 ≤ r → (Rd m).duties g r = ∅ :=
  fun r hr => if_neg fun h => by omega
theorem duties_zero (sm : SemLoc sig) : (Rd m).duties ((c : Thread nD τ), sm) 0 = dutiesOf c sm := by
  unfold Rd; dsimp only; rw [if_pos (And.intro rfl rfl)]
theorem duties_bar : (Rd m).duties (barCell c) 0 = Finset.univ := duties_zero m c _
theorem duties_send : (Rd m).duties (sendCell c o) 0 = {0} := by
  rw [duties_zero]
  show (if (sendS o : Fin 34).val < 3 then _ else _) = _
  have := o.isLt
  rw [sendS_val, if_neg (by omega), if_pos (by omega)]
theorem duties_recv (h : s ≠ c) : (Rd m).duties (recvCell c s) 0 = {0} := by
  rw [duties_zero]
  show (if (recvS s : Fin 34).val < 3 then _ else _) = _
  rw [recvS_val, if_neg (by omega), if_neg (by omega), if_neg fun e => h (Fin.ext (by omega))]
/-- A device's own receive semaphore has no duty in any round. -/
theorem duties_own : ∀ r, 0 ≤ r → (Rd m).duties (recvCell c c) r = ∅ := fun r _ => by
  by_cases hr : r = 0
  · refine (if_pos ⟨hr, rfl⟩).trans ?_
    show (if (recvS c : Fin 34).val < 3 then _ else _) = _
    rw [recvS_val, if_neg (by omega), if_neg (by omega), if_pos rfl]
  · exact if_neg fun h => hr h.1

theorem expect_bar : (Rd m).expect (barCell c) 0 = 15 := by
  unfold Schedule.expect Schedule.amountOf
  rw [duties_bar]
  show ∑ _o : Fin 15, 1 = 15
  rfl
theorem expect_send : (Rd m).expect (sendCell c o) 0 = N := by
  unfold Schedule.expect Schedule.amountOf
  rw [duties_send, Finset.sum_singleton]; rfl
theorem expect_recv (h : s ≠ c) : (Rd m).expect (recvCell c s) 0 = N := by
  unfold Schedule.expect Schedule.amountOf
  rw [duties_recv m c s h, Finset.sum_singleton]; rfl

theorem payload_bar : (Rd m).payload (barCell c) 0 o = iprop(∃ f, rowPts (up c o) c fullShare f) := rfl
theorem payload_send (d : Fin 15) : (Rd m).payload (sendCell c o) 0 d = rowPts c c (shareTok fullShare 15 o) (sums m) := by
  show (if (sendS o : Fin 34).val < 18 then _ else _) = _
  have := o.isLt
  rw [sendS_val, if_pos (by omega), shareTok_eq, Nat.add_sub_cancel_left]
theorem payload_recv (d : Fin 15) : (Rd m).payload (recvCell c s) 0 d = rowPts c s fullShare (sums m) := by
  show (if (recvS s : Fin 34).val < 18 then _ else _) = _
  rw [recvS_val, if_neg (by omega), Nat.add_sub_cancel_left]
  exact congrArg (fun x => rowPts c x fullShare (sums m)) (Fin.ofNat_val_eq_self s)

/-- What a round's wait brings, nothing of it taken before. -/
theorem rest_bar : bigSep ((Rd m).duties (barCell c) 0 \ ∅) (fun d => (Rd m).payload (barCell c) 0 d)
    = bigSep Finset.univ fun o : Fin 15 => iprop(∃ f, rowPts (up c o) c fullShare f) := by
  rw [Finset.sdiff_empty, duties_bar]; rfl
theorem rest_send : bigSep ((Rd m).duties (sendCell c o) 0 \ ∅) (fun d => (Rd m).payload (sendCell c o) 0 d)
    = rowPts c c (shareTok fullShare 15 o) (sums m) := by
  rw [Finset.sdiff_empty, duties_send, bigSep_singleton, payload_send]
theorem rest_recv (h : s ≠ c) : bigSep ((Rd m).duties (recvCell c s) 0 \ ∅) (fun d => (Rd m).payload (recvCell c s) 0 d)
    = rowPts c s fullShare (sums m) := by
  rw [Finset.sdiff_empty, duties_recv m c s h, bigSep_singleton, payload_recv]

end Sched

/-! ## Debts and levels -/

/-- What device `c` owes the receive semaphores of the others, its first `k` copies sent; -/
def owedRecv (c : Dev nD) (k : ℕ) : CellTallies nD τ sig Unit := ∑ o ∈ ge k, tallyAt (recvCell (up c o) c) () N
/-- and with that the barriers of the others, its first `k` signals given. -/
def owedBar (c : Dev nD) (k : ℕ) : CellTallies nD τ sig Unit := owedRecv c 0 + ∑ o ∈ ge k, tallyAt (barCell (up c o)) () 1

theorem owedRecv_step (c : Dev nD) (o : Fin 15) : owedRecv c o.val = owedRecv c (o.val + 1) + tallyAt (recvCell (up c o) c) () N := by
  unfold owedRecv; rw [ge_step, Finset.sum_insert (not_mem_ge o), add_comm]
theorem owedBar_step (c : Dev nD) (o : Fin 15) : owedBar c o.val = owedBar c (o.val + 1) + tallyAt (barCell (up c o)) () 1 := by
  unfold owedBar; rw [ge_step, Finset.sum_insert (not_mem_ge o), add_comm (tallyAt _ _ _), add_assoc]
theorem owedRecv_last (c : Dev nD) : owedRecv c 15 = 0 := by unfold owedRecv; rw [ge_last, Finset.sum_empty]
theorem owedBar_last (c : Dev nD) : owedBar c 15 = owedRecv c 0 := by unfold owedBar; rw [ge_last, Finset.sum_empty, add_zero]

/-- The protocol's cells belong to TensorCores; -/
def L (g : GSem nD τ sig) : Finset Unit := if g.1.2 = .tc then {()} else ∅
def lvOf : SemLoc sig → ℕ
  | .reg _ => 1
  | .dma q => if (q : Fin 34).val < 18 then 0 else 2
/-- a barrier is at level 1, a receive semaphore at 2, everything else at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c s : Dev nD) : lv (recvCell c s) () = 2 := by
  show (if (recvS s : Fin 34).val < 18 then 0 else 2) = 2
  rw [recvS_val, if_neg (by omega)]

/-- A sum of tallies counts only at cells of the summands. -/
theorem sum_tally_pos {A : Finset (Fin 15)} {cell : Fin 15 → GSem nD τ sig} {n : ℕ} {g : GSem nD τ sig} {u : Unit}
    (h : 0 < (∑ o ∈ A, (tallyAt (cell o) () n : CellTallies nD τ sig Unit)) g u) : ∃ o, g = cell o := by
  rw [Finset.sum_apply, Finsupp.finset_sum_apply] at h
  by_contra hn
  rw [Finset.sum_eq_zero fun o _ => by rw [tallyAt_apply, if_neg fun e => hn ⟨o, e.1⟩]] at h
  exact Nat.lt_irrefl 0 h
theorem owedRecv_pos {c : Dev nD} {k : ℕ} {g : GSem nD τ sig} {u : Unit} (h : 0 < owedRecv c k g u) : ∃ o, g = recvCell (up c o) c :=
  sum_tally_pos h
theorem owedBar_pos {c : Dev nD} {k : ℕ} {g : GSem nD τ sig} {u : Unit} (h : 0 < owedBar c k g u) :
    (∃ o, g = recvCell (up c o) c) ∨ ∃ o, g = barCell (up c o) := by
  unfold owedBar at h
  rw [Pi.add_apply, Finsupp.add_apply] at h
  rcases Nat.add_pos_iff_pos_or_pos.mp h with h | h
  · exact Or.inl (owedRecv_pos h)
  · exact Or.inr (sum_tally_pos h)

omit [FloatOps F] in
/-- A wait on a semaphore of level 0 is allowed whatever of the start's debts is left. -/
theorem mayWait_low (c : Dev nD) (q : DmaSem sig) (hq : (q : Fin 34).val < 18) (O : CellTallies nD τ sig Unit) (hO : O = owedBar c 0 ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedBar_pos hg with ⟨o, rfl⟩ | ⟨o, rfl⟩ <;> exact Finset.mem_singleton_self _)
      (fun p hp => by rw [Finset.mem_singleton.mp hp]; exact le_of_eq (if_pos hq))
      (fun g u hg => by
        rcases owedBar_pos hg with ⟨o, rfl⟩ | ⟨o, rfl⟩
        · rw [lv_recv]; decide
        · exact Nat.one_pos)
  · rw [MayWait_zero]; iintro -; iempintro

omit [FloatOps F] in
/-- At its barrier wait a device owes receive semaphores only. -/
theorem mayWait_bar (c : Dev nD) : (levAts L lv : sProp 𝕄) ⊢ MayWait (c : Thread nD τ) (.reg barS) () (owedRecv c 0) :=
  MayOwe.of_cut (L := L) (lev := lv) 1 (fun p hp => by rw [Finset.mem_singleton.mp hp, L_tc]; exact Finset.mem_singleton_self _)
    (fun g u hg => by obtain ⟨o, rfl⟩ := owedRecv_pos hg; exact Finset.mem_singleton_self _)
    (fun p hp => by rw [Finset.mem_singleton.mp hp]; exact le_refl 1)
    (fun g u hg => by obtain ⟨o, rfl⟩ := owedRecv_pos hg; rw [lv_recv]; decide)

end Cert.KernelIdeal.Norm

end
-- ==== Proof.KernelIdeal.Steps.lean ====
/-
The four kinds of step, each stated once for a step number: a signal to a device's barrier, a copy of the device's row to
another device, a wait for another device's row, a wait for one of its own copies. Beside them the devices, rows and
semaphores the kernel computes, as functions of the step number.
-/
module

public import proofs.«01_k».proof.Proof.KernelIdeal.Schedule

@[expose] public section

noncomputable section

namespace Cert.KernelIdeal.Norm

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells, counted -/

/-- A device's semaphores in the protocol: the barrier, then the fifteen of its copies, then the sixteen it receives on. -/
def semOf (i : Fin 32) : SemLoc sig := if i = 0 then .reg barS else .dma (⟨2 + i.val, by have := i.isLt; omega⟩ : Fin 34)
def sendIx (o : Fin 15) : Fin 32 := ⟨1 + o.val, by have := o.isLt; omega⟩
def recvIx (s : Dev nD) : Fin 32 := ⟨16 + s.val, Nat.add_lt_add_left (s.isLt : s.val < 16) 16⟩
def cellOf (p : Dev nD × Fin 32) : GSem nD τ sig := ((p.1 : Thread nD τ), semOf p.2)

theorem cellOf_bar (c : Dev nD) : cellOf (c, 0) = barCell c := rfl
theorem cellOf_send (c : Dev nD) (o : Fin 15) : cellOf (c, sendIx o) = sendCell c o := by
  have h : semOf (sendIx o) = .dma (sendS o) := by revert o; decide
  exact congrArg (Prod.mk (c : Thread nD τ)) h
theorem cellOf_recv (c s : Dev nD) : cellOf (c, recvIx s) = recvCell c s := by
  have h : semOf (recvIx s) = .dma (recvS s) := by revert s; decide
  exact congrArg (Prod.mk (c : Thread nD τ)) h

/-- What every device knows of every cell: its invariant, and that it is in its first round. -/
def recs (K : Dev nD × Fin 32 → ℕ) : sProp 𝕄 :=
  bigSep Finset.univ fun p : Dev nD × Fin 32 => iprop(cellInv ER (Rd m) (K p) (cellOf p) ∗ reached ER (cellOf p) 0)

instance recs_persistent (K : Dev nD × Fin 32 → ℕ) : BI.Persistent (recs m K) := by unfold recs; infer_instance

variable (K : Dev nD × Fin 32 → ℕ)

theorem recs_bar (c : Dev nD) : recs m K ⊢ iprop(cellInv ER (Rd m) (K (c, 0)) (barCell c) ∗ reached ER (barCell c) 0) :=
  bigSep_elim (Finset.mem_univ (c, (0 : Fin 32)))
theorem recs_send (c : Dev nD) (o : Fin 15) : recs m K ⊢ iprop(cellInv ER (Rd m) (K (c, sendIx o)) (sendCell c o) ∗ reached ER (sendCell c o) 0) := by
  rw [← cellOf_send]; exact bigSep_elim (Finset.mem_univ (c, sendIx o))
theorem recs_recv (c s : Dev nD) : recs m K ⊢ iprop(cellInv ER (Rd m) (K (c, recvIx s)) (recvCell c s) ∗ reached ER (recvCell c s) 0) := by
  rw [← cellOf_recv]; exact bigSep_elim (Finset.mem_univ (c, recvIx s))

/-! ## A signal -/

/-- Device `c` after its first `k` signals: it owes the others, and holds for each its row there to hand over. -/
def sigSt (c : Dev nD) (k : ℕ) : sProp 𝕄 :=
  iprop(recs m K ∗ (∃ W, owes (c : Thread nD τ) (owedBar c k) W)
    ∗ bigSep (ge k) fun o => iprop(dutyTok ER (barCell (up c o)) 0 o.rev ∗ ∃ f, rowPts c (up c o) fullShare f))

/-- The signal to the device `o + 1` places up. -/
theorem sig_step (c : Dev nD) (o : Fin 15) (i j : ℕ) (hi : i = o.val) (hj : j = o.val + 1) (n : Dev nD) (hn : n = up c o) (s : Sem sig) (hs : s = barS) (a : ℤ) (ha : a = ((1 : ℕ) : ℤ))
    {α : Type} {Q : α → sProp 𝕄} {k : PUnit → Prog (TpuEff nD τ sig (Elt F) Λ₀ .tc) α} :
    sigSt m K c i ⊢ iprop((sigSt m K c j -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) s a) k) Q) := by
  subst hi; subst hj; subst hn; subst hs; subst ha
  unfold sigSt
  rw [bigSep_ge_step o]
  iintro ⟨#Hr, ⟨%W, HO⟩, ⟨Ht, Hrow⟩, Hrest⟩ Hk
  ihave Hb := (recs_bar m K (up c o)) $$ Hr
  icases Hb with ⟨#Hi, #Hreach⟩
  iapply (Rounds.wp_signal 𝒱₀ ER (Rd m) (c : Thread nD τ) none (dst := (up c o : Thread nD τ)) (κ := K (up c o, 0))
      (d := o.rev) (by rw [duties_bar]; exact Finset.mem_univ _) rfl () (owedBar c (o.val + 1)) (owedBar_step c o))
    $$ [HO Ht Hrow]
  · isplitr; · iexact Hi
    isplitl [HO]; · iexact HO
    isplitl [Ht]; · iexact Ht
    isplitl [Hrow]; · rw [payload_bar, up_up_rev]; iexact Hrow
    iexact Hreach
  iintro HO
  iapply Hk
  isplitr; · iexact Hr
  isplitl [HO]; · iexists W; iexact HO
  iexact Hrest

/-! ## A copy -/

/-- Device `c` after its first `k` copies. -/
def sendSt (c : Dev nD) (k : ℕ) : sProp 𝕄 :=
  iprop(recs m K ∗ (∃ W, owes (c : Thread nD τ) (owedRecv c k) W)
    ∗ (bigSep (ge k) fun o => iprop(dutyTok ER (sendCell c o) 0 0 ∗ dutyTok ER (recvCell (up c o) c) 0 0
        ∗ rowPts c c (shareTok fullShare 15 o) (sums m) ∗ ∃ f, rowPts (up c o) c fullShare f))
    ∗ bigSep (lt k) fun o => cred (tallyAt (sendCell c o) () N))

/-- The copy of its row to the device `o + 1` places up. -/
theorem send_step (c : Dev nD) (o : Fin 15) (i j : ℕ) (hi : i = o.val) (hj : j = o.val + 1) (n : Dev nD) (hn : n = up c o) (M : Memref sig .tc .vmem S768 .f32) (hM : M = row c)
    (s₁ : DmaSem sig) (h₁ : s₁ = sendS o) (s₂ : DmaSem sig) (h₂ : s₂ = recvS c)
    {hsc : (M : Memref sig (Dev.tc n : Thread nD τ).2.kind .vmem S768 .f32).view.ref.isScScratch = false}
    {hsrc : M.view.WordExact} {hdst : M.view.WordExact}
    {hsem : DmaTarget.Typed .vmem (.dma s₂) (.remote (Dev.tc n : Thread nD τ) (M : Memref sig .tc .vmem S768 .f32) (.dma s₁) hsc)}
    {α : Type} {Q : α → sProp 𝕄} {k : PUnit → Prog (TpuEff nD τ sig (Elt F) Λ₀ .tc) α} :
    sendSt m K c i ⊢ iprop((sendSt m K c j -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma M (.remote (Dev.tc n : Thread nD τ) M (.dma s₁) hsc) (.dma s₂) hsrc hdst hsem) k) Q) := by
  subst hi; subst hj; subst hn; subst hM; subst h₁; subst h₂
  unfold sendSt
  rw [bigSep_ge_step o, bigSep_lt_step o]
  iintro ⟨#Hr, ⟨%W, HO⟩, ⟨⟨Hs, Hv, Hsrc, ⟨%fd, Hdst⟩⟩, Hrest⟩, Hdone⟩ Hk
  ihave Ha := (recs_send m K c o) $$ Hr
  icases Ha with ⟨#Hi₁, #Hreach₁⟩
  ihave Hb := (recs_recv m K (up c o) c) $$ Hr
  icases Hb with ⟨#Hi₂, #Hreach₂⟩
  have hN : (row c).view.amount (SemLoc.dma (recvS c) : SemLoc sig) = N := row_credit c
  have hp₁ : ((row c).view.loc (c : Thread nD τ) ↦[(row c).view.set]{shareTok fullShare 15 o} sums m : sProp 𝕄)
      ⊢ (Rd m).payload (sendCell c o) 0 0 := Entails.of_eq (payload_send m c o 0).symm
  have hp₂ : ((row c).view.loc (up c o : Thread nD τ) ↦[(row c).view.set]{fullShare}
        ((row c).view.write (Elt F) fd ((row c).view.read (Elt F) (sums m)) Finset.univ) : sProp 𝕄)
      ⊢ (Rd m).payload (recvCell (up c o) c) 0 0 :=
    Entails.of_eq ((rowPts_landed (up c o) c fullShare fd (sums m)).trans (payload_recv m (up c o) c 0).symm)
  have hd₁ : (0 : Fin 15) ∈ (Rd m).duties (sendCell c o) 0 := by rw [duties_send]; exact Finset.mem_singleton_self _
  have hd₂ : (0 : Fin 15) ∈ (Rd m).duties (recvCell (up c o) c) 0 := by
    rw [duties_recv m (up c o) c (up_ne c o).symm]; exact Finset.mem_singleton_self _
  unfold rowPts
  iapply (Rounds.wp_send_pointsTo 𝒱₀ ER (Rd m) (c : Thread nD τ) none (c' := (up c o : Thread nD τ)) (src := row c) (dst := row c)
      (κ₁ := K (c, sendIx o)) (κ₂ := K (up c o, recvIx c)) (q := shareTok fullShare 15 o) (fs := sums m)
      (r₁ := 0) (r₂ := 0) (d₁ := 0) (d₂ := 0) (fd := fd) hd₁ hd₂
      () () N hN rfl rfl (owedRecv c (o.val + 1)) (owedRecv_step c o) (W := W) hp₁ hp₂)
    $$ [HO Hs Hv Hsrc Hdst]
  · isplitr; · iexact Hi₁
    isplitr; · iexact Hi₂
    isplitl [Hsrc]; · iexact Hsrc
    isplitl [Hdst]; · iexact Hdst
    isplitl [HO]; · iexact HO
    isplitl [Hs]; · iexact Hs
    isplitr; · iexact Hreach₁
    isplitl [Hv]; · iexact Hv
    iexact Hreach₂
  iintro ⟨Hc, HO⟩
  iapply Hk
  isplitr; · iexact Hr
  isplitl [HO]; · iexists W; iexact HO
  isplitl [Hrest]; · iexact Hrest
  isplitl [Hc]; · iexact Hc
  iexact Hdone

/-! ## A wait for another device's row -/

/-- Device `c` after its first `k` receive waits. -/
def recvSt (c : Dev nD) (k : ℕ) : sProp 𝕄 :=
  iprop(recs m K ∗ (∃ W, owes (c : Thread nD τ) 0 W)
    ∗ (bigSep (ge k) fun o => iprop(cred (tallyAt (recvCell c (down c o)) () N) ∗ atPos ER (recvCell c (down c o)) 0 ∅ 0))
    ∗ bigSep (lt k) fun o => iprop(rowPts c (down c o) fullShare (sums m) ∗ atPos ER (recvCell c (down c o)) 1 ∅ 0))

/-- The wait for the row of the device `o + 1` places down. -/
theorem recv_step (c : Dev nD) (o : Fin 15) (i j : ℕ) (hi : i = o.val) (hj : j = o.val + 1) (s : DmaSem sig) (hs : s = recvS (down c o)) (M M' : Memref sig .tc .vmem S768 .f32)
    (r : Dev nD) (hM : M' = row r) {h₁ : M.view.WordExact} {h₂ : M'.view.WordExact}
    {α : Type} {Q : α → sProp 𝕄} {k : PUnit → Prog (TpuEff nD τ sig (Elt F) Λ₀ .tc) α} :
    recvSt m K c i ⊢ iprop((recvSt m K c j -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 s M M' h₁ h₂) k) Q) := by
  subst hi; subst hj; subst hs; subst hM
  unfold recvSt
  rw [bigSep_ge_step o, bigSep_lt_step o]
  iintro ⟨#Hr, ⟨%W, HO⟩, ⟨⟨Hc, Hat⟩, Hrest⟩, Hdone⟩ Hk
  ihave Ha := (recs_recv m K c (down c o)) $$ Hr
  icases Ha with ⟨#Hi, -⟩
  iapply (Rounds.wp_wait_rest_token 𝒱₀ ER (Rd m) (c : Thread nD τ) none (κ := K (c, recvIx (down c o)))
      (wpE_waitDma2_eq 𝒱₀ (c : Thread nD τ) none Set.univ) (Set.mem_univ _) () (O := 0) (W := W) (R := 0) (m := 0) (T := ∅)
      (by rw [Nat.zero_add, expect_recv m c _ (down_ne c o)]; rfl)) $$ [Hc HO Hat]
  · isplitr; · iexact Hi
    isplitl [Hc]; · iexact Hc
    isplitl [HO]; · iexact HO
    isplitr; · rw [MayWait_zero]; iempintro
    iexact Hat
  iintro ⟨HO, Hat, -, Hpay⟩
  ihave Hrow := (Entails.of_eq (rest_recv m c _ (down_ne c o))) $$ Hpay
  iapply Hk
  isplitr; · iexact Hr
  isplitl [HO]; · iexists _; iexact HO
  isplitl [Hrest]; · iexact Hrest
  isplitl [Hrow Hat]
  · isplitl [Hrow]; · iexact Hrow
    iexact Hat
  iexact Hdone

/-! ## A wait for a copy's end -/

/-- Device `c` after it has waited for the end of its first `k` copies. -/
def backSt (c : Dev nD) (k : ℕ) : sProp 𝕄 :=
  iprop(recs m K ∗ (∃ W, owes (c : Thread nD τ) 0 W)
    ∗ (bigSep (ge k) fun o => iprop(cred (tallyAt (sendCell c o) () N) ∗ atPos ER (sendCell c o) 0 ∅ 0))
    ∗ bigSep (lt k) fun o => iprop(rowPts c c (shareTok fullShare 15 o) (sums m) ∗ atPos ER (sendCell c o) 1 ∅ 0))

/-- The wait for the copy to the device `o + 1` places up: what was lent of the row is back. -/
theorem back_step (c : Dev nD) (o : Fin 15) (i j : ℕ) (hi : i = o.val) (hj : j = o.val + 1) (s : DmaSem sig) (hs : s = sendS o) (M M' : Memref sig .tc .vmem S768 .f32)
    (r : Dev nD) (hM : M' = row r) {h₁ : M.view.WordExact} {h₂ : M'.view.WordExact}
    {α : Type} {Q : α → sProp 𝕄} {k : PUnit → Prog (TpuEff nD τ sig (Elt F) Λ₀ .tc) α} :
    backSt m K c i ⊢ iprop((backSt m K c j -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 s M M' h₁ h₂) k) Q) := by
  subst hi; subst hj; subst hs; subst hM
  unfold backSt
  rw [bigSep_ge_step o, bigSep_lt_step o]
  iintro ⟨#Hr, ⟨%W, HO⟩, ⟨⟨Hc, Hat⟩, Hrest⟩, Hdone⟩ Hk
  ihave Ha := (recs_send m K c o) $$ Hr
  icases Ha with ⟨#Hi, -⟩
  iapply (Rounds.wp_wait_rest_token 𝒱₀ ER (Rd m) (c : Thread nD τ) none (κ := K (c, sendIx o))
      (wpE_waitDma2_eq 𝒱₀ (c : Thread nD τ) none Set.univ) (Set.mem_univ _) () (O := 0) (W := W) (R := 0) (m := 0) (T := ∅)
      (by rw [Nat.zero_add, expect_send m c o]; rfl)) $$ [Hc HO Hat]
  · isplitr; · iexact Hi
    isplitl [Hc]; · iexact Hc
    isplitl [HO]; · iexact HO
    isplitr; · rw [MayWait_zero]; iempintro
    iexact Hat
  iintro ⟨HO, Hat, -, Hpay⟩
  ihave Hrow := (Entails.of_eq (rest_send m c o)) $$ Hpay
  iapply Hk
  isplitr; · iexact Hr
  isplitl [HO]; · iexists _; iexact HO
  isplitl [Hrest]; · iexact Hrest
  isplitl [Hrow Hat]
  · isplitl [Hrow]; · iexact Hrow
    iexact Hat
  iexact Hdone

/-! ## The wait on the barrier -/

/-- All fifteen signals of a device's own barrier: each sender's row for it comes with its signal. -/
theorem bar_wait (c : Dev nD) (s : Sem sig) (hs : s = barS) (a : ℤ) (ha : a = ((15 : ℕ) : ℤ))
    {α : Type} {Q : α → sProp 𝕄} {k : PUnit → Prog (TpuEff nD τ sig (Elt F) Λ₀ .tc) α} :
    iprop(recs m K ∗ levAts L lv ∗ (∃ W, owes (c : Thread nD τ) (owedRecv c 0) W) ∗ cred (tallyAt (barCell c) () 15) ∗ atPos ER (barCell c) 0 ∅ 0)
      ⊢ iprop((((∃ W, owes (c : Thread nD τ) (owedRecv c 0) W) ∗ atPos ER (barCell c) 1 ∅ 0
            ∗ bigSep Finset.univ fun o : Fin 15 => iprop(∃ f, rowPts (up c o) c fullShare f))
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait s a) k) Q) := by
  subst hs; subst ha
  iintro ⟨#Hr, #Hlev, ⟨%W, HO⟩, Hc, Hat⟩ Hk
  ihave Ha := (recs_bar m K c) $$ Hr
  icases Ha with ⟨#Hi, -⟩
  iapply (Rounds.wp_wait_rest_token 𝒱₀ ER (Rd m) (c : Thread nD τ) none (κ := K (c, 0))
      (wpE_semWait_eq 𝒱₀ (c : Thread nD τ) none Set.univ) (Set.mem_univ _) () (O := owedRecv c 0) (W := W) (R := 0) (m := 0) (T := ∅)
      (by rw [expect_bar])) $$ [Hc HO Hat]
  · isplitr; · iexact Hi
    isplitl [Hc]; · iexact Hc
    isplitl [HO]; · iexact HO
    isplitr; · iapply (mayWait_bar c); iexact Hlev
    iexact Hat
  iintro ⟨HO, Hat, -, Hpay⟩
  ihave Hrows := (Entails.of_eq (rest_bar m c)) $$ Hpay
  iapply Hk
  isplitl [HO]; · iexists _; iexact HO
  isplitl [Hat]; · iexact Hat
  iexact Hrows

end Cert.KernelIdeal.Norm

end
-- ==== Proof.KernelIdeal.Access.lean ====
/-
The kernel's offsets, and what its loads and stores read and leave.
-/
module

public import proofs.«01_k».proof.Proof.KernelIdeal.Steps

@[expose] public section

noncomputable section

namespace Cert.KernelIdeal.Norm

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## Offsets -/

theorem off1_eq (c : Dev nD) : k0_off1 c = ![c.val, 0] := by revert c; decide +kernel
theorem off2_eq (c : Dev nD) : k0_off2 c = ![c.val] := by revert c; decide +kernel
theorem off3_eq (c : Dev nD) : k0_off3 c = ![c.val, 0] := by revert c; decide +kernel
theorem off4_eq (c : Dev nD) (o : Fin 15) (w : BitVec 32) (h : w = BitVec.ofNat 32 (1 + o.val)) : k0_off4 c w = ![(down c o).val] := by
  subst h; revert c o; decide +kernel
theorem off5_eq (c : Dev nD) (o : Fin 15) (w : BitVec 32) (h : w = BitVec.ofNat 32 (1 + o.val)) : k0_off5 c w = ![(down c o).val, 0] := by
  subst h; revert c o; decide +kernel

/-! ## Whole-buffer accesses -/

theorem zero2 : (![0, 0] : Fin 2 → Nat) = fun _ => 0 := funext fun a => by fin_cases a <;> rfl
theorem zero1 : (![0] : Fin 1 → Nat) = fun _ => 0 := funext fun a => by fin_cases a; rfl

abbrev rX : Rect S768x512 := Rect.unit (s := S768x512) ![0, 0] S768x512.size inb_S768x512_S768x512_0_0
abbrev rG : Rect S512 := Rect.unit (s := S512) ![0] S512.size inb_S512_S512_0
abbrev rP : Rect S16x768 := Rect.unit (s := S16x768) ![0, 0] S16x768.size inb_S16x768_S16x768_0_0

omit [FloatOps F] in
theorem read_x (f : (cc0_stg0_0 : Ref sig .tc).ty.Contents (Elt F)) : xM.view.readAt (Elt F) rX.toLoadRect f = f :=
  Memref.readAt_unit_zero (Elt F) cc0_stg0_0 zero2 _ f
omit [FloatOps F] in
theorem read_g (f : (cc0_stg1_0 : Ref sig .tc).ty.Contents (Elt F)) : gM.view.readAt (Elt F) rG.toLoadRect f = f :=
  Memref.readAt_unit_zero (Elt F) cc0_stg1_0 zero1 _ f
omit [FloatOps F] in
theorem read_sums (f : (cc0_scratch0 : Ref sig .tc).ty.Contents (Elt F)) : pM.view.readAt (Elt F) rP.toLoadRect f = f :=
  Memref.readAt_unit_zero (Elt F) cc0_scratch0 zero2 _ f
omit [FloatOps F] in
theorem write_out (f w : (cc0_stg2_0 : Ref sig .tc).ty.Contents (Elt F)) :
    (oM.access rX : View sig .tc _ _ _).write (Elt F) f w Finset.univ = w :=
  Memref.write_access_unit_zero_univ (Elt F) cc0_stg2_0 zero2 _ f w

/-! ## The store of a row -/

/-- A row's rectangle. -/
abbrev rRow (s : Dev nD) : Rect S16x768 := Rect.unit (s := S16x768) ![s.val, 0] S1x768.size (row_inb s)

theorem rRow_val (s : Dev nD) (j : (rRow s).shape.Idx) : ((rRow s).emb j 0).val = s.val ∧ ((rRow s).emb j 1).val = (j 1).val := by
  rw [Rect.emb_apply, Rect.emb_apply]
  have h0 : (j 0).val < 1 := (j 0).isLt
  constructor
  · show s.val + 1 * (j 0).val = s.val; omega
  · show 0 + 1 * (j 1).val = (j 1).val; omega

/-- A store through a row's rectangle stays in the row; -/
theorem row_store_sub (s : Dev nD) : (pM.access (rRow s)).setOn Finset.univ ⊆ (row s).view.set := fun i hi => by
  obtain ⟨j, -, rfl⟩ := Finset.mem_map.mp hi
  exact mem_row.mpr (rRow_val s j).1
/-- so does a load. -/
theorem row_load_sub (s : Dev nD) : pM.view.setOn (rRow s).toLoadRect.set ⊆ (row s).view.set := fun i hi => by
  obtain ⟨i, hj, rfl⟩ := Finset.mem_map.mp hi
  refine mem_row.mpr ?_
  have h : s.val ≤ (i 0).val ∧ (i 0).val < s.val + 1 := Rect.mem_set_unit.mp hj 0
  show (i 0).val = s.val
  omega

/-- A device's row, the sums of squares of its own block stored in it. -/
theorem row_stored (d c : Dev nD) (f : (cc0_scratch0 : Ref sig .tc).ty.Contents (Elt F)) :
    (rowPts d c fullShare ((pM.access (rRow c)).write (Elt F) f (k0_pay2 (xstg m c)) Finset.univ) : sProp 𝕄) = rowPts d c fullShare (sums m) := by
  refine rowPts_congr d c fullShare fun i hi => ?_
  have he : i = (pM.access (rRow c)).emb (ix2 (0 : Fin 1) (⟨(i 1).val, (i 1).isLt⟩ : Fin 768)) := by
    refine funext fun a => Fin.ext ?_
    fin_cases a
    · exact hi.trans (rRow_val c _).1.symm
    · exact (rRow_val c (ix2 (0 : Fin 1) (⟨(i 1).val, (i 1).isLt⟩ : Fin 768))).2.symm
  have hc : (⟨(i 0).val, (i 0).isLt⟩ : Dev nD) = c := Fin.ext hi
  unfold sums
  rw [hc]
  conv_lhs => rw [he]
  rw [View.write_emb_of_mem _ _ (Finset.mem_univ _)]
  rfl

end Cert.KernelIdeal.Norm

end
-- ==== Proof.KernelIdeal.Phases.lean ====
/-
Between the steps: what a device holds when a phase of its kernel begins and what it has when the phase ends, and the
closing of its semaphores.
-/
module

public import proofs.«01_k».proof.Proof.KernelIdeal.Access

@[expose] public section

noncomputable section

namespace Cert.KernelIdeal.Norm

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (K : Dev nD × Fin 32 → ℕ)

/-! ## Over a device's semaphores -/

section Big
variable {M : Type} [URA M]

theorem sendIx_inj : Function.Injective sendIx := by decide
theorem recvIx_inj : Function.Injective recvIx := by decide
theorem univ_sems : (Finset.univ : Finset (Fin 32))
    = insert 0 ((Finset.univ.map ⟨sendIx, sendIx_inj⟩) ∪ (Finset.univ.map ⟨recvIx, recvIx_inj⟩)) := by decide
theorem zero_not_mem_sems : (0 : Fin 32) ∉ (Finset.univ.map ⟨sendIx, sendIx_inj⟩) ∪ (Finset.univ.map ⟨recvIx, recvIx_inj⟩) := by decide
theorem sems_disjoint : Disjoint (Finset.univ.map ⟨sendIx, sendIx_inj⟩) (Finset.univ.map ⟨recvIx, recvIx_inj⟩) := by decide

/-- Over a device's semaphores: the barrier, those of its copies, the one it would receive its own row on, those it
    receives the others' rows on. -/
theorem bigSep_sems (c : Dev nD) (Φ : Fin 32 → sProp M) :
    bigSep Finset.univ Φ = iprop(Φ 0 ∗ (bigSep Finset.univ fun o : Fin 15 => Φ (sendIx o)) ∗ Φ (recvIx c)
      ∗ bigSep Finset.univ fun o : Fin 15 => Φ (recvIx (down c o))) := by
  rw [univ_sems]
  refine (bigSep_insert zero_not_mem_sems).trans ?_
  rw [BI.bigSep_union sems_disjoint, bigSep_map, bigSep_map,
    bigSep_dev_down c]
  rfl

/-- Something persistent beside a family goes to each member. -/
theorem bigSep_beside {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

end Big

/-! ## The signals -/

theorem sig_start (c : Dev nD) (f : (cc0_scratch0 : Ref sig .tc).ty.Contents (Elt F)) :
    iprop(recs m K ∗ (∃ W, owes (c : Thread nD τ) (owedBar c 0) W) ∗ (bigSep Finset.univ fun o : Fin 15 => dutyTok ER (barCell (up c o)) 0 o.rev)
        ∗ bigSep Finset.univ fun o : Fin 15 => rowPts c (up c o) fullShare f)
      ⊢ sigSt m K c 0 := by
  unfold sigSt
  rw [ge_zero, bigSep_sep']
  have h (o : Fin 15) : (rowPts c (up c o) fullShare f : sProp 𝕄) ⊢ iprop(∃ f, rowPts c (up c o) fullShare f) := by
    iintro H; iexists f; iexact H
  iintro ⟨Hr, HO, Ht, Hrow⟩
  isplitl [Hr]; · iexact Hr
  isplitl [HO]; · iexact HO
  isplitl [Ht]; · iexact Ht
  iapply (show (bigSep Finset.univ fun o : Fin 15 => rowPts c (up c o) fullShare f)
      ⊢ (bigSep Finset.univ fun o : Fin 15 => iprop(∃ f, rowPts c (up c o) fullShare f) : sProp 𝕄) from
    bigSep_mono fun o _ => h o)
  iexact Hrow

theorem sig_end (c : Dev nD) : sigSt m K c 15 ⊢ iprop(∃ W, owes (c : Thread nD τ) (owedRecv c 0) W) := by
  unfold sigSt
  rw [owedBar_last]
  iintro ⟨-, HO, -⟩
  iexact HO

/-! ## The copies -/

theorem send_start (c : Dev nD) :
    iprop(recs m K ∗ (∃ W, owes (c : Thread nD τ) (owedRecv c 0) W)
        ∗ (bigSep Finset.univ fun o : Fin 15 => dutyTok ER (sendCell c o) 0 0)
        ∗ (bigSep Finset.univ fun o : Fin 15 => dutyTok ER (recvCell (up c o) c) 0 0)
        ∗ rowPts c c fullShare (sums m)
        ∗ bigSep Finset.univ fun o : Fin 15 => iprop(∃ f, rowPts (up c o) c fullShare f))
      ⊢ iprop(sendSt m K c 0 ∗ rowPts c c (shareDrop fullShare 15) (sums m)) := by
  unfold sendSt
  rw [ge_zero, lt_zero, bigSep_sep', bigSep_sep', bigSep_sep', bigSep_empty]
  iintro ⟨Hr, HO, Hs, Hv, Hown, Hrows⟩
  ihave Hp := (show rowPts c c fullShare (sums m) ⊢ iprop(rowPts c c (shareDrop fullShare 15) (sums m)
      ∗ bigSep Finset.univ fun o : Fin 15 => rowPts c c (shareTok fullShare 15 o) (sums m)) from pointsTo_toks_split fullShare 15) $$ Hown
  icases Hp with ⟨Hkeep, Hlend⟩
  isplitr [Hkeep]
  · isplitl [Hr]; · iexact Hr
    isplitl [HO]; · iexact HO
    isplitl
    · isplitl [Hs]; · iexact Hs
      isplitl [Hv]; · iexact Hv
      isplitl [Hlend]; · iexact Hlend
      iexact Hrows
    iempintro
  iexact Hkeep

theorem send_end (c : Dev nD) : sendSt m K c 15 ⊢ iprop((∃ W, owes (c : Thread nD τ) 0 W) ∗ bigSep Finset.univ fun o : Fin 15 => cred (tallyAt (sendCell c o) () N)) := by
  unfold sendSt
  rw [owedRecv_last, lt_last]
  iintro ⟨-, HO, -, Hc⟩
  isplitl [HO]; · iexact HO
  iexact Hc

/-! ## The receive waits -/

theorem recv_start (c : Dev nD) :
    iprop(recs m K ∗ (∃ W, owes (c : Thread nD τ) 0 W)
        ∗ (bigSep Finset.univ fun o : Fin 15 => cred (tallyAt (recvCell c (down c o)) () N))
        ∗ bigSep Finset.univ fun o : Fin 15 => atPos ER (recvCell c (down c o)) 0 ∅ 0)
      ⊢ recvSt m K c 0 := by
  unfold recvSt
  rw [ge_zero, lt_zero, bigSep_sep', bigSep_empty]
  iintro ⟨Hr, HO, Hc, Hat⟩
  isplitl [Hr]; · iexact Hr
  isplitl [HO]; · iexact HO
  isplitl
  · isplitl [Hc]; · iexact Hc
    iexact Hat
  iempintro

theorem recv_end (c : Dev nD) :
    recvSt m K c 15 ⊢ iprop((∃ W, owes (c : Thread nD τ) 0 W) ∗ (bigSep Finset.univ fun o : Fin 15 => rowPts c (down c o) fullShare (sums m))
      ∗ bigSep Finset.univ fun o : Fin 15 => atPos ER (recvCell c (down c o)) 1 ∅ 0) := by
  unfold recvSt
  rw [ge_last, lt_last, bigSep_empty, bigSep_sep']
  iintro ⟨-, HO, -, Hrows, Hat⟩
  isplitl [HO]; · iexact HO
  isplitl [Hrows]; · iexact Hrows
  iexact Hat

/-! ## The load of the whole buffer -/

/-- The rows of the others, held whole, and what is kept of the device's own make the buffer at the kept share, and are
    had back for it. -/
theorem whole_lend (c : Dev nD) :
    iprop(rowPts c c (shareDrop fullShare 15) (sums m) ∗ bigSep Finset.univ fun o : Fin 15 => rowPts c (down c o) fullShare (sums m))
      ⊢ iprop((((c : Thread nD τ).loc cc0_scratch0) ↦{shareDrop fullShare 15} sums m)
        ∗ ((((c : Thread nD τ).loc cc0_scratch0) ↦{shareDrop fullShare 15} sums m)
          -∗ (rowPts c c (shareDrop fullShare 15) (sums m) ∗ bigSep Finset.univ fun o : Fin 15 => rowPts c (down c o) fullShare (sums m)))) := by
  rw [rows_eq, bigSep_dev_down c]
  have hs (o : Fin 15) : (rowPts c (down c o) fullShare (sums m) : sProp 𝕄)
      = iprop(rowPts c (down c o) (shareDrop fullShare 15) (sums m)
        ∗ bigSep Finset.univ fun i : Fin 15 => rowPts c (down c o) (shareTok fullShare 15 i) (sums m)) :=
    BI.Entails.antisymm (pointsTo_toks_split fullShare 15) (pointsTo_toks_join fullShare 15)
  rw [bigSep_congr (Φ := fun o : Fin 15 => rowPts c (down c o) fullShare (sums m)) fun o _ => hs o, bigSep_sep']
  iintro ⟨Hown, Hkeep, Htoks⟩
  isplitl [Hown Hkeep]
  · isplitl [Hown]; · iexact Hown
    iexact Hkeep
  iintro ⟨Hown, Hkeep⟩
  isplitl [Hown]; · iexact Hown
  isplitl [Hkeep]; · iexact Hkeep
  iexact Htoks

/-! ## The waits for the copies -/

theorem back_start (c : Dev nD) :
    iprop(recs m K ∗ (∃ W, owes (c : Thread nD τ) 0 W)
        ∗ (bigSep Finset.univ fun o : Fin 15 => cred (tallyAt (sendCell c o) () N))
        ∗ bigSep Finset.univ fun o : Fin 15 => atPos ER (sendCell c o) 0 ∅ 0)
      ⊢ backSt m K c 0 := by
  unfold backSt
  rw [ge_zero, lt_zero, bigSep_sep', bigSep_empty]
  iintro ⟨Hr, HO, Hc, Hat⟩
  isplitl [Hr]; · iexact Hr
  isplitl [HO]; · iexact HO
  isplitl
  · isplitl [Hc]; · iexact Hc
    iexact Hat
  iempintro

theorem back_end (c : Dev nD) :
    backSt m K c 15 ⊢ iprop((∃ W, owes (c : Thread nD τ) 0 W) ∗ (bigSep Finset.univ fun o : Fin 15 => rowPts c c (shareTok fullShare 15 o) (sums m))
      ∗ bigSep Finset.univ fun o : Fin 15 => atPos ER (sendCell c o) 1 ∅ 0) := by
  unfold backSt
  rw [ge_last, lt_last, bigSep_empty, bigSep_sep']
  iintro ⟨-, HO, -, Hrows, Hat⟩
  isplitl [HO]; · iexact HO
  isplitl [Hrows]; · iexact Hrows
  iexact Hat

/-- All of the buffer again. -/
theorem whole_again (c : Dev nD) :
    iprop(rowPts c c (shareDrop fullShare 15) (sums m) ∗ (bigSep Finset.univ fun o : Fin 15 => rowPts c c (shareTok fullShare 15 o) (sums m))
        ∗ bigSep Finset.univ fun o : Fin 15 => rowPts c (down c o) fullShare (sums m))
      ⊢ (((c : Thread nD τ).loc cc0_scratch0) ↦{fullShare} sums m : sProp 𝕄) := by
  rw [rows_eq, bigSep_dev_down c]
  iintro ⟨Hkeep, Hback, Hrows⟩
  isplitl [Hkeep Hback]
  · iapply (show iprop(rowPts c c (shareDrop fullShare 15) (sums m) ∗ bigSep Finset.univ fun o : Fin 15 => rowPts c c (shareTok fullShare 15 o) (sums m))
      ⊢ rowPts c c fullShare (sums m) from pointsTo_toks_join fullShare 15)
    isplitl [Hkeep]; · iexact Hkeep
    iexact Hback
  iexact Hrows

/-! ## The close -/

/-- A semaphore whose rounds are over is closed: its counter, zero, is the device's. -/
theorem close_one (p : Dev nD × Fin 32) (R : ℕ) (hR : ∀ r, R ≤ r → (Rd m).duties (cellOf p) r = ∅) :
    iprop(recs m K ∗ atPos ER (cellOf p) R ∅ 0) ⊢ (|={Set.univ}=> semVal (cellOf p) 0 : sProp 𝕄) := by
  have h : recs m K ⊢ iprop(cellInv ER (Rd m) (K p) (cellOf p) ∗ reached ER (cellOf p) 0) := bigSep_elim (Finset.mem_univ p)
  iintro ⟨#Hr, Hat⟩
  ihave Hp := h $$ Hr
  icases Hp with ⟨#Hi, -⟩
  iapply (Rounds.cell_close ER (Rd m) (Set.mem_univ (K p)) (fun h => h) (R := R) hR)
  isplitr; · iexact Hi
  iexact Hat

theorem close_many (c : Dev nD) (f : Fin 15 → Fin 32) :
    iprop(recs m K ∗ bigSep Finset.univ fun o => atPos ER (cellOf (c, f o)) 1 ∅ 0)
      ⊢ (|={Set.univ}=> bigSep Finset.univ fun o => semVal (cellOf (c, f o)) 0 : sProp 𝕄) :=
  (bigSep_beside fun o _ => close_one m K (c, f o) 1 (duties_later m _)).trans (bigSep_fupd _ _)

/-- All the device's semaphores closed at once. -/
theorem close_all (c : Dev nD) :
    iprop(recs m K ∗ atPos ER (barCell c) 1 ∅ 0 ∗ (bigSep Finset.univ fun o : Fin 15 => atPos ER (sendCell c o) 1 ∅ 0)
        ∗ atPos ER (recvCell c c) 0 ∅ 0 ∗ bigSep Finset.univ fun o : Fin 15 => atPos ER (recvCell c (down c o)) 1 ∅ 0)
      ⊢ (|={Set.univ}=> bigSep Finset.univ fun i : Fin 32 => semVal (cellOf (c, i)) 0 : sProp 𝕄) := by
  rw [bigSep_sems c]
  simp only [← cellOf_bar, ← cellOf_send, ← cellOf_recv]
  iintro ⟨#Hr, Hb, Hs, Ho, Hv⟩
  imod (close_one m K (c, 0) 1 (duties_later m _)) $$ [Hb] with Hb
  · isplitr; · iexact Hr
    iexact Hb
  imod (close_many m K c sendIx) $$ [Hs] with Hs
  · isplitr; · iexact Hr
    iexact Hs
  imod (close_one m K (c, recvIx c) 0 (by rw [cellOf_recv]; exact duties_own m c)) $$ [Ho] with Ho
  · isplitr; · iexact Hr
    iexact Ho
  imod (close_many m K c fun o => recvIx (down c o)) $$ [Hv] with Hv
  · isplitr; · iexact Hr
    iexact Hv
  imodintro
  isplitl [Hb]; · iexact Hb
  isplitl [Hs]; · iexact Hs
  isplitl [Ho]; · iexact Ho
  iexact Hv

end Cert.KernelIdeal.Norm

end
-- ==== Proof.KernelIdeal.Body.lean ====
/-
One device's run of the kernel, from what the launch gives it to the scaled block in its result buffer.
-/
module

public import proofs.«01_k».proof.Proof.KernelIdeal.Phases

@[expose] public section

noncomputable section

namespace Cert.KernelIdeal.Norm

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

variable (K : Dev nD × Fin 32 → ℕ)

/-- The load of the device's own row before the store, of which nothing is used; -/
theorem row_load (c : Dev nD) {off : Fin 2 → Nat} (h : off = ![c.val, 0]) (inb : ∀ a, off a + S1x768.size a ≤ S16x768.size a)
    (f : (cc0_scratch0 : Ref sig .tc).ty.Contents (Elt F)) {hl : pM.view.LoadsAt (Rect.unit (s := S16x768) off S1x768.size inb).toLoadRect}
    {α : Type} {Q : α → sProp 𝕄} {k : Vec F S1x768 .f32 → Prog (TpuEff nD τ sig (Elt F) Λ₀ .tc) α} :
    (rowPts c c fullShare f : sProp 𝕄)
      ⊢ iprop((rowPts c c fullShare f -∗ wp frame (wpE (defs₀ (F := F)) 𝒱₀ (c : Thread nD τ) none) Set.univ
            (k (pM.view.readAt (Elt F) (Rect.unit (s := S16x768) off S1x768.size inb).toLoadRect f)) Q)
        -∗ wp frame (wpE (defs₀ (F := F)) 𝒱₀ (c : Thread nD τ) none) Set.univ
            (.op (.load pM (Rect.unit (s := S16x768) off S1x768.size inb).toLoadRect hl) k) Q) := by
  subst h
  exact wp_load 𝒱₀ (c : Thread nD τ) none Set.univ (m := pM) (row_load_sub c)

/-- and the store of the sums of squares into it. -/
theorem row_store (c : Dev nD) {off : Fin 2 → Nat} (h : off = ![c.val, 0]) (inb : ∀ a, off a + S1x768.size a ≤ S16x768.size a)
    (f : (cc0_scratch0 : Ref sig .tc).ty.Contents (Elt F))
    {hx : (pM.access (Rect.unit (s := S16x768) off S1x768.size inb)).Stores Finset.univ} {hm}
    {α : Type} {Q : α → sProp 𝕄} {k : PUnit → Prog (TpuEff nD τ sig (Elt F) Λ₀ .tc) α} :
    (rowPts c c fullShare f : sProp 𝕄)
      ⊢ iprop((rowPts c c fullShare (sums m) -∗ wp frame (wpE (defs₀ (F := F)) 𝒱₀ (c : Thread nD τ) none) Set.univ (k ⟨⟩) Q)
        -∗ wp frame (wpE (defs₀ (F := F)) 𝒱₀ (c : Thread nD τ) none) Set.univ
            (.op (.store pM (Rect.unit (s := S16x768) off S1x768.size inb) (k0_pay2 (xstg m c)) Finset.univ hx hm) k) Q) := by
  subst h
  rw [← row_stored m c c f]
  exact wp_store 𝒱₀ (c : Thread nD τ) none Set.univ (m := pM) (r := rRow c) (Mk := Finset.univ) (row_store_sub c)

/-- Device `c`'s ghost state: what is known of every semaphore; its place in the rounds of its own; the right to pay
    every duty that is its to pay. -/
def ghost (c : Dev nD) : sProp 𝕄 :=
  iprop(recs m K ∗ (bigSep Finset.univ fun i : Fin 32 => atPos ER (cellOf (c, i)) 0 ∅ 0)
    ∗ (bigSep Finset.univ fun o : Fin 15 => dutyTok ER (barCell (up c o)) 0 o.rev)
    ∗ (bigSep Finset.univ fun o : Fin 15 => dutyTok ER (sendCell c o) 0 0)
    ∗ bigSep Finset.univ fun o : Fin 15 => dutyTok ER (recvCell (up c o) c) 0 0)

/-- The counts others owe its semaphores. -/
def credits (c : Dev nD) : sProp 𝕄 :=
  iprop(cred (tallyAt (barCell c) () 15) ∗ bigSep Finset.univ fun o : Fin 15 => cred (tallyAt (recvCell c (down c o)) () N))

abbrev pts (c : Dev nD) (b : Ref sig .tc) (f : b.ty.Contents (Elt F)) : sProp 𝕄 := ((c : Thread nD τ).loc b) ↦{fullShare} f

/-- What device `c` starts from; -/
def bodyPre (c : Dev nD) (f : (cc0_scratch0 : Ref sig .tc).ty.Contents (Elt F)) (fo : (cc0_stg2_0 : Ref sig .tc).ty.Contents (Elt F)) : sProp 𝕄 :=
  iprop(ghost m K c ∗ credits c ∗ levAts L lv ∗ (∃ W, owes (c : Thread nD τ) (owedBar c 0) W)
    ∗ pts c cc0_scratch0 f ∗ pts c cc0_stg0_0 (xstg m c) ∗ pts c cc0_stg1_0 (gstg m c) ∗ pts c cc0_stg2_0 fo)
/-- and what it ends with. -/
def bodyPost (c : Dev nD) : sProp 𝕄 :=
  iprop((bigSep Finset.univ fun i : Fin 32 => semVal (cellOf (c, i)) 0) ∗ (∃ W, owes (c : Thread nD τ) 0 W)
    ∗ pts c cc0_scratch0 (sums m) ∗ pts c cc0_stg0_0 (xstg m c) ∗ pts c cc0_stg1_0 (gstg m c) ∗ pts c cc0_stg2_0 (outAt m c))

set_option maxHeartbeats 4000000 in
/-- The kernel's effects in program order: fifteen signals, the row, the barrier, fifteen copies, fifteen receive waits,
    the result, fifteen waits for the copies. -/
theorem sound_body (c : Dev nD) (f : (cc0_scratch0 : Ref sig .tc).ty.Contents (Elt F)) (fo : (cc0_stg2_0 : Ref sig .tc).ty.Contents (Elt F))
    (Kt : PUnit → sProp 𝕄) :
    iprop(bodyPre m K c f fo ∗ (bodyPost m c -∗ Kt ⟨⟩))
      ⊢ wp frame (wpE (defs₀ (F := F)) 𝒱₀ c none) Set.univ
          (cc0_body xM (Memref.isWhole_whole _) gM (Memref.isWhole_whole _) oM (Memref.isWhole_whole _) pM (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel k0_part20_skel
    k0_part21_skel k0_part22_skel k0_part23_skel k0_part24_skel k0_part25_skel k0_part26_skel
  simp only [semSignalWord, semWaitWord, Prog.lift, Prog.bind_op, Prog.bind_ret, Prog.pure_eq_ret, wp_deviceId]
  unfold bodyPre ghost credits pts
  rw [bigSep_sems c]
  simp only [cellOf_bar, cellOf_send, cellOf_recv]
  rw [rows_eq, bigSep_dev_up c]
  iintro ⟨⟨⟨#Hr, ⟨HatB, HatS, HatO, HatV⟩, HtB, HtS, HtV⟩, ⟨HcB, HcV⟩, #Hlev, HO, ⟨Hown, Hrows⟩, Hx, Hg, Hout⟩, Hk⟩
  -- the signals
  ihave H := (sig_start m K c f) $$ [HO HtB Hrows]
  · isplitr; · iexact Hr
    isplitl [HO]; · iexact HO
    isplitl [HtB]; · iexact HtB
    iexact Hrows
  iapply (sig_step m K c 0 0 1 rfl rfl _ (dev_eq k0_dev1 0 (by decide +kernel) c (k0_dev1_lt c)) _ rfl _ rfl) $$ H; iintro H
  iapply (sig_step m K c 1 1 2 rfl rfl _ (dev_eq k0_dev2 1 (by decide +kernel) c (k0_dev2_lt c)) _ rfl _ rfl) $$ H; iintro H
  iapply (sig_step m K c 2 2 3 rfl rfl _ (dev_eq k0_dev3 2 (by decide +kernel) c (k0_dev3_lt c)) _ rfl _ rfl) $$ H; iintro H
  iapply (sig_step m K c 3 3 4 rfl rfl _ (dev_eq k0_dev4 3 (by decide +kernel) c (k0_dev4_lt c)) _ rfl _ rfl) $$ H; iintro H
  iapply (sig_step m K c 4 4 5 rfl rfl _ (dev_eq k0_dev5 4 (by decide +kernel) c (k0_dev5_lt c)) _ rfl _ rfl) $$ H; iintro H
  iapply (sig_step m K c 5 5 6 rfl rfl _ (dev_eq k0_dev6 5 (by decide +kernel) c (k0_dev6_lt c)) _ rfl _ rfl) $$ H; iintro H
  iapply (sig_step m K c 6 6 7 rfl rfl _ (dev_eq k0_dev7 6 (by decide +kernel) c (k0_dev7_lt c)) _ rfl _ rfl) $$ H; iintro H
  iapply (sig_step m K c 7 7 8 rfl rfl _ (dev_eq k0_dev8 7 (by decide +kernel) c (k0_dev8_lt c)) _ rfl _ rfl) $$ H; iintro H
  iapply (sig_step m K c 8 8 9 rfl rfl _ (dev_eq k0_dev9 8 (by decide +kernel) c (k0_dev9_lt c)) _ rfl _ rfl) $$ H; iintro H
  iapply (sig_step m K c 9 9 10 rfl rfl _ (dev_eq k0_dev10 9 (by decide +kernel) c (k0_dev10_lt c)) _ rfl _ rfl) $$ H; iintro H
  iapply (sig_step m K c 10 10 11 rfl rfl _ (dev_eq k0_dev11 10 (by decide +kernel) c (k0_dev11_lt c)) _ rfl _ rfl) $$ H; iintro H
  iapply (sig_step m K c 11 11 12 rfl rfl _ (dev_eq k0_dev12 11 (by decide +kernel) c (k0_dev12_lt c)) _ rfl _ rfl) $$ H; iintro H
  iapply (sig_step m K c 12 12 13 rfl rfl _ (dev_eq k0_dev13 12 (by decide +kernel) c (k0_dev13_lt c)) _ rfl _ rfl) $$ H; iintro H
  iapply (sig_step m K c 13 13 14 rfl rfl _ (dev_eq k0_dev14 13 (by decide +kernel) c (k0_dev14_lt c)) _ rfl _ rfl) $$ H; iintro H
  iapply (sig_step m K c 14 14 15 rfl rfl _ (dev_eq k0_dev15 14 (by decide +kernel) c (k0_dev15_lt c)) _ rfl _ rfl) $$ H; iintro H
  ihave HO := (sig_end m K c) $$ H
  -- the block's sums of squares into the device's own row
  iapply (wp_load 𝒱₀ (c : Thread nD τ) none Set.univ (m := xM) (Finset.subset_univ _)) $$ Hx; iintro Hx
  rw [read_x]
  iapply (row_load c (off1_eq c) (k0_off1_inb c) f) $$ Hown; iintro Hown
  iapply (row_store m c (off1_eq c) (k0_off1_inb c) f) $$ Hown; iintro Hown
  -- the barrier
  iapply (bar_wait m K c _ rfl _ rfl) $$ [HO HcB HatB]
  · isplitr; · iexact Hr
    isplitr; · iexact Hlev
    isplitl [HO]; · iexact HO
    isplitl [HcB]; · iexact HcB
    iexact HatB
  iintro ⟨HO, HatB, Hrows⟩
  -- the copies
  ihave H := (send_start m K c) $$ [HO HtS HtV Hown Hrows]
  · isplitr; · iexact Hr
    isplitl [HO]; · iexact HO
    isplitl [HtS]; · iexact HtS
    isplitl [HtV]; · iexact HtV
    isplitl [Hown]; · iexact Hown
    iexact Hrows
  icases H with ⟨H, Hkeep⟩
  iapply (send_step m K c 0 0 1 rfl rfl _ (dev_eq k0_dev16 0 (by decide +kernel) c (k0_dev16_lt c)) _ (row_eq c (off3_eq c) (k0_off3_inb c))
    _ (sendS_eq 0 (off := ![0]) rfl inb_S15_S1_0) _ (recvS_eq c (off2_eq c) (k0_off2_inb c))) $$ H; iintro H
  iapply (send_step m K c 1 1 2 rfl rfl _ (dev_eq k0_dev17 1 (by decide +kernel) c (k0_dev17_lt c)) _ (row_eq c (off3_eq c) (k0_off3_inb c))
    _ (sendS_eq 1 (off := ![1]) rfl inb_S15_S1_1) _ (recvS_eq c (off2_eq c) (k0_off2_inb c))) $$ H; iintro H
  iapply (send_step m K c 2 2 3 rfl rfl _ (dev_eq k0_dev18 2 (by decide +kernel) c (k0_dev18_lt c)) _ (row_eq c (off3_eq c) (k0_off3_inb c))
    _ (sendS_eq 2 (off := ![2]) rfl inb_S15_S1_2) _ (recvS_eq c (off2_eq c) (k0_off2_inb c))) $$ H; iintro H
  iapply (send_step m K c 3 3 4 rfl rfl _ (dev_eq k0_dev19 3 (by decide +kernel) c (k0_dev19_lt c)) _ (row_eq c (off3_eq c) (k0_off3_inb c))
    _ (sendS_eq 3 (off := ![3]) rfl inb_S15_S1_3) _ (recvS_eq c (off2_eq c) (k0_off2_inb c))) $$ H; iintro H
  iapply (send_step m K c 4 4 5 rfl rfl _ (dev_eq k0_dev20 4 (by decide +kernel) c (k0_dev20_lt c)) _ (row_eq c (off3_eq c) (k0_off3_inb c))
    _ (sendS_eq 4 (off := ![4]) rfl inb_S15_S1_4) _ (recvS_eq c (off2_eq c) (k0_off2_inb c))) $$ H; iintro H
  iapply (send_step m K c 5 5 6 rfl rfl _ (dev_eq k0_dev21 5 (by decide +kernel) c (k0_dev21_lt c)) _ (row_eq c (off3_eq c) (k0_off3_inb c))
    _ (sendS_eq 5 (off := ![5]) rfl inb_S15_S1_5) _ (recvS_eq c (off2_eq c) (k0_off2_inb c))) $$ H; iintro H
  iapply (send_step m K c 6 6 7 rfl rfl _ (dev_eq k0_dev22 6 (by decide +kernel) c (k0_dev22_lt c)) _ (row_eq c (off3_eq c) (k0_off3_inb c))
    _ (sendS_eq 6 (off := ![6]) rfl inb_S15_S1_6) _ (recvS_eq c (off2_eq c) (k0_off2_inb c))) $$ H; iintro H
  iapply (send_step m K c 7 7 8 rfl rfl _ (dev_eq k0_dev23 7 (by decide +kernel) c (k0_dev23_lt c)) _ (row_eq c (off3_eq c) (k0_off3_inb c))
    _ (sendS_eq 7 (off := ![7]) rfl inb_S15_S1_7) _ (recvS_eq c (off2_eq c) (k0_off2_inb c))) $$ H; iintro H
  iapply (send_step m K c 8 8 9 rfl rfl _ (dev_eq k0_dev24 8 (by decide +kernel) c (k0_dev24_lt c)) _ (row_eq c (off3_eq c) (k0_off3_inb c))
    _ (sendS_eq 8 (off := ![8]) rfl inb_S15_S1_8) _ (recvS_eq c (off2_eq c) (k0_off2_inb c))) $$ H; iintro H
  iapply (send_step m K c 9 9 10 rfl rfl _ (dev_eq k0_dev25 9 (by decide +kernel) c (k0_dev25_lt c)) _ (row_eq c (off3_eq c) (k0_off3_inb c))
    _ (sendS_eq 9 (off := ![9]) rfl inb_S15_S1_9) _ (recvS_eq c (off2_eq c) (k0_off2_inb c))) $$ H; iintro H
  iapply (send_step m K c 10 10 11 rfl rfl _ (dev_eq k0_dev26 10 (by decide +kernel) c (k0_dev26_lt c)) _ (row_eq c (off3_eq c) (k0_off3_inb c))
    _ (sendS_eq 10 (off := ![10]) rfl inb_S15_S1_10) _ (recvS_eq c (off2_eq c) (k0_off2_inb c))) $$ H; iintro H
  iapply (send_step m K c 11 11 12 rfl rfl _ (dev_eq k0_dev27 11 (by decide +kernel) c (k0_dev27_lt c)) _ (row_eq c (off3_eq c) (k0_off3_inb c))
    _ (sendS_eq 11 (off := ![11]) rfl inb_S15_S1_11) _ (recvS_eq c (off2_eq c) (k0_off2_inb c))) $$ H; iintro H
  iapply (send_step m K c 12 12 13 rfl rfl _ (dev_eq k0_dev28 12 (by decide +kernel) c (k0_dev28_lt c)) _ (row_eq c (off3_eq c) (k0_off3_inb c))
    _ (sendS_eq 12 (off := ![12]) rfl inb_S15_S1_12) _ (recvS_eq c (off2_eq c) (k0_off2_inb c))) $$ H; iintro H
  iapply (send_step m K c 13 13 14 rfl rfl _ (dev_eq k0_dev29 13 (by decide +kernel) c (k0_dev29_lt c)) _ (row_eq c (off3_eq c) (k0_off3_inb c))
    _ (sendS_eq 13 (off := ![13]) rfl inb_S15_S1_13) _ (recvS_eq c (off2_eq c) (k0_off2_inb c))) $$ H; iintro H
  iapply (send_step m K c 14 14 15 rfl rfl _ (dev_eq k0_dev30 14 (by decide +kernel) c (k0_dev30_lt c)) _ (row_eq c (off3_eq c) (k0_off3_inb c))
    _ (sendS_eq 14 (off := ![14]) rfl inb_S15_S1_14) _ (recvS_eq c (off2_eq c) (k0_off2_inb c))) $$ H; iintro H
  ihave H := (send_end m K c) $$ H
  icases H with ⟨HO, HcS⟩
  iapply (wp_load 𝒱₀ (c : Thread nD τ) none Set.univ (m := gM) (Finset.subset_univ _)) $$ Hg; iintro Hg
  rw [read_g]
  -- the receive waits
  ihave H := (recv_start m K c) $$ [HO HcV HatV]
  · isplitr; · iexact Hr
    isplitl [HO]; · iexact HO
    isplitl [HcV]; · iexact HcV
    iexact HatV
  iapply (recv_step m K c 0 0 1 rfl rfl _ (recvS_eq (down c 0) (off4_eq c 0 1#32 rfl) (k0_off4_inb c 0)) _ _
    (down c 0) (row_eq (down c 0) (off5_eq c 0 1#32 rfl) (k0_off5_inb c 0))) $$ H; iintro H
  iapply (recv_step m K c 1 1 2 rfl rfl _ (recvS_eq (down c 1) (off4_eq c 1 2#32 rfl) (k0_off4_inb c 1)) _ _
    (down c 1) (row_eq (down c 1) (off5_eq c 1 2#32 rfl) (k0_off5_inb c 1))) $$ H; iintro H
  iapply (recv_step m K c 2 2 3 rfl rfl _ (recvS_eq (down c 2) (off4_eq c 2 3#32 rfl) (k0_off4_inb c 2)) _ _
    (down c 2) (row_eq (down c 2) (off5_eq c 2 3#32 rfl) (k0_off5_inb c 2))) $$ H; iintro H
  iapply (recv_step m K c 3 3 4 rfl rfl _ (recvS_eq (down c 3) (off4_eq c 3 4#32 rfl) (k0_off4_inb c 3)) _ _
    (down c 3) (row_eq (down c 3) (off5_eq c 3 4#32 rfl) (k0_off5_inb c 3))) $$ H; iintro H
  iapply (recv_step m K c 4 4 5 rfl rfl _ (recvS_eq (down c 4) (off4_eq c 4 5#32 rfl) (k0_off4_inb c 4)) _ _
    (down c 4) (row_eq (down c 4) (off5_eq c 4 5#32 rfl) (k0_off5_inb c 4))) $$ H; iintro H
  iapply (recv_step m K c 5 5 6 rfl rfl _ (recvS_eq (down c 5) (off4_eq c 5 6#32 rfl) (k0_off4_inb c 5)) _ _
    (down c 5) (row_eq (down c 5) (off5_eq c 5 6#32 rfl) (k0_off5_inb c 5))) $$ H; iintro H
  iapply (recv_step m K c 6 6 7 rfl rfl _ (recvS_eq (down c 6) (off4_eq c 6 7#32 rfl) (k0_off4_inb c 6)) _ _
    (down c 6) (row_eq (down c 6) (off5_eq c 6 7#32 rfl) (k0_off5_inb c 6))) $$ H; iintro H
  iapply (recv_step m K c 7 7 8 rfl rfl _ (recvS_eq (down c 7) (off4_eq c 7 8#32 rfl) (k0_off4_inb c 7)) _ _
    (down c 7) (row_eq (down c 7) (off5_eq c 7 8#32 rfl) (k0_off5_inb c 7))) $$ H; iintro H
  iapply (recv_step m K c 8 8 9 rfl rfl _ (recvS_eq (down c 8) (off4_eq c 8 9#32 rfl) (k0_off4_inb c 8)) _ _
    (down c 8) (row_eq (down c 8) (off5_eq c 8 9#32 rfl) (k0_off5_inb c 8))) $$ H; iintro H
  iapply (recv_step m K c 9 9 10 rfl rfl _ (recvS_eq (down c 9) (off4_eq c 9 10#32 rfl) (k0_off4_inb c 9)) _ _
    (down c 9) (row_eq (down c 9) (off5_eq c 9 10#32 rfl) (k0_off5_inb c 9))) $$ H; iintro H
  iapply (recv_step m K c 10 10 11 rfl rfl _ (recvS_eq (down c 10) (off4_eq c 10 11#32 rfl) (k0_off4_inb c 10)) _ _
    (down c 10) (row_eq (down c 10) (off5_eq c 10 11#32 rfl) (k0_off5_inb c 10))) $$ H; iintro H
  iapply (recv_step m K c 11 11 12 rfl rfl _ (recvS_eq (down c 11) (off4_eq c 11 12#32 rfl) (k0_off4_inb c 11)) _ _
    (down c 11) (row_eq (down c 11) (off5_eq c 11 12#32 rfl) (k0_off5_inb c 11))) $$ H; iintro H
  iapply (recv_step m K c 12 12 13 rfl rfl _ (recvS_eq (down c 12) (off4_eq c 12 13#32 rfl) (k0_off4_inb c 12)) _ _
    (down c 12) (row_eq (down c 12) (off5_eq c 12 13#32 rfl) (k0_off5_inb c 12))) $$ H; iintro H
  iapply (recv_step m K c 13 13 14 rfl rfl _ (recvS_eq (down c 13) (off4_eq c 13 14#32 rfl) (k0_off4_inb c 13)) _ _
    (down c 13) (row_eq (down c 13) (off5_eq c 13 14#32 rfl) (k0_off5_inb c 13))) $$ H; iintro H
  iapply (recv_step m K c 14 14 15 rfl rfl _ (recvS_eq (down c 14) (off4_eq c 14 15#32 rfl) (k0_off4_inb c 14)) _ _
    (down c 14) (row_eq (down c 14) (off5_eq c 14 15#32 rfl) (k0_off5_inb c 14))) $$ H; iintro H
  ihave H := (recv_end m K c) $$ H
  icases H with ⟨HO, Hrows, HatV⟩
  -- the result
  ihave H := (whole_lend m c) $$ [Hkeep Hrows]
  · isplitl [Hkeep]; · iexact Hkeep
    iexact Hrows
  icases H with ⟨Hall, Hgive⟩
  iapply (wp_load 𝒱₀ (c : Thread nD τ) none Set.univ (m := pM) (Finset.subset_univ _)) $$ Hall; iintro Hall
  rw [read_sums]
  ihave H := Hgive $$ Hall
  icases H with ⟨Hkeep, Hrows⟩
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the waits for the copies
  ihave H := (back_start m K c) $$ [HO HcS HatS]
  · isplitr; · iexact Hr
    isplitl [HO]; · iexact HO
    isplitl [HcS]; · iexact HcS
    iexact HatS
  iapply (back_step m K c 0 0 1 rfl rfl _ (sendS_eq 0 (off := ![0]) rfl inb_S15_S1_0) _ _ c (row_eq c (off3_eq c) (k0_off3_inb c))) $$ H; iintro H
  iapply (back_step m K c 1 1 2 rfl rfl _ (sendS_eq 1 (off := ![1]) rfl inb_S15_S1_1) _ _ c (row_eq c (off3_eq c) (k0_off3_inb c))) $$ H; iintro H
  iapply (back_step m K c 2 2 3 rfl rfl _ (sendS_eq 2 (off := ![2]) rfl inb_S15_S1_2) _ _ c (row_eq c (off3_eq c) (k0_off3_inb c))) $$ H; iintro H
  iapply (back_step m K c 3 3 4 rfl rfl _ (sendS_eq 3 (off := ![3]) rfl inb_S15_S1_3) _ _ c (row_eq c (off3_eq c) (k0_off3_inb c))) $$ H; iintro H
  iapply (back_step m K c 4 4 5 rfl rfl _ (sendS_eq 4 (off := ![4]) rfl inb_S15_S1_4) _ _ c (row_eq c (off3_eq c) (k0_off3_inb c))) $$ H; iintro H
  iapply (back_step m K c 5 5 6 rfl rfl _ (sendS_eq 5 (off := ![5]) rfl inb_S15_S1_5) _ _ c (row_eq c (off3_eq c) (k0_off3_inb c))) $$ H; iintro H
  iapply (back_step m K c 6 6 7 rfl rfl _ (sendS_eq 6 (off := ![6]) rfl inb_S15_S1_6) _ _ c (row_eq c (off3_eq c) (k0_off3_inb c))) $$ H; iintro H
  iapply (back_step m K c 7 7 8 rfl rfl _ (sendS_eq 7 (off := ![7]) rfl inb_S15_S1_7) _ _ c (row_eq c (off3_eq c) (k0_off3_inb c))) $$ H; iintro H
  iapply (back_step m K c 8 8 9 rfl rfl _ (sendS_eq 8 (off := ![8]) rfl inb_S15_S1_8) _ _ c (row_eq c (off3_eq c) (k0_off3_inb c))) $$ H; iintro H
  iapply (back_step m K c 9 9 10 rfl rfl _ (sendS_eq 9 (off := ![9]) rfl inb_S15_S1_9) _ _ c (row_eq c (off3_eq c) (k0_off3_inb c))) $$ H; iintro H
  iapply (back_step m K c 10 10 11 rfl rfl _ (sendS_eq 10 (off := ![10]) rfl inb_S15_S1_10) _ _ c (row_eq c (off3_eq c) (k0_off3_inb c))) $$ H; iintro H
  iapply (back_step m K c 11 11 12 rfl rfl _ (sendS_eq 11 (off := ![11]) rfl inb_S15_S1_11) _ _ c (row_eq c (off3_eq c) (k0_off3_inb c))) $$ H; iintro H
  iapply (back_step m K c 12 12 13 rfl rfl _ (sendS_eq 12 (off := ![12]) rfl inb_S15_S1_12) _ _ c (row_eq c (off3_eq c) (k0_off3_inb c))) $$ H; iintro H
  iapply (back_step m K c 13 13 14 rfl rfl _ (sendS_eq 13 (off := ![13]) rfl inb_S15_S1_13) _ _ c (row_eq c (off3_eq c) (k0_off3_inb c))) $$ H; iintro H
  iapply (back_step m K c 14 14 15 rfl rfl _ (sendS_eq 14 (off := ![14]) rfl inb_S15_S1_14) _ _ c (row_eq c (off3_eq c) (k0_off3_inb c))) $$ H; iintro H
  ihave H := (back_end m K c) $$ H
  icases H with ⟨HO, Hback, HatS⟩
  -- every semaphore closed
  imod (close_all m K c) $$ [HatB HatS HatO HatV] with Hz
  · isplitr; · iexact Hr
    isplitl [HatB]; · iexact HatB
    isplitl [HatS]; · iexact HatS
    isplitl [HatO]; · iexact HatO
    iexact HatV
  rw [wp_ret]; imodintro
  iapply Hk
  unfold bodyPost pts outAt
  isplitl [Hz]; · iexact Hz
  isplitl [HO]; · iexact HO
  isplitl [Hkeep Hback Hrows]
  · iapply (whole_again m c)
    isplitl [Hkeep]; · iexact Hkeep
    isplitl [Hback]; · iexact Hback
    iexact Hrows
  isplitl [Hx]; · iexact Hx
  isplitl [Hg]; · iexact Hg
  iexact Hout

end Cert.KernelIdeal.Norm

end
-- ==== Proof.KernelIdeal.Deal.lean ====
/-
What the launch mints for the protocol, and how it is dealt to the devices.
-/
module

public import proofs.«01_k».proof.Proof.KernelIdeal.Body

@[expose] public section

noncomputable section

namespace Cert.KernelIdeal.Norm

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The cells -/

theorem semOf_injective : Function.Injective semOf := by decide +kernel
/-- A cell tells its device and its semaphore. -/
theorem cell_ext {c c' : Dev nD} {a b : SemLoc sig} (h : (((c : Thread nD τ), a) : GSem nD τ sig) = ((c' : Thread nD τ), b)) : c = c' ∧ a = b :=
  ⟨congrArg (fun g : GSem nD τ sig => g.1.1) h, congrArg Prod.snd h⟩
theorem cells_injective : Function.Injective (cellOf : Dev nD × Fin 32 → GSem nD τ sig) := by
  rintro ⟨c, i⟩ ⟨c', i'⟩ h
  obtain ⟨h1, h2⟩ := cell_ext h
  exact Prod.ext h1 (semOf_injective h2)
/-- Every semaphore of every device the protocol uses. -/
def allCells : Finset (GSem nD τ sig) := Finset.univ.map ⟨cellOf, cells_injective⟩

theorem sendS_injective : Function.Injective sendS := by decide
theorem recvS_injective : Function.Injective recvS := by decide
theorem sendS_ne_recvS : ∀ o s, sendS o ≠ recvS s := by decide

/-! ## The duties -/

/-- The duties, named by who pays them: device `c` pays, for each offset, the barrier of the device that far up, its own
    send semaphore, and its receive semaphore on the device that far up. -/
def dutyOf (x : Dev nD × Fin 3 × Fin 15) : GSem nD τ sig × ℕ × Fin 15 := match x.2.1 with
  | 0 => (barCell (up x.1 x.2.2), 0, x.2.2.rev)
  | 1 => (sendCell x.1 x.2.2, 0, 0)
  | 2 => (recvCell (up x.1 x.2.2) x.1, 0, 0)

theorem duty_bar_inj {c c' : Dev nD} {o o' : Fin 15}
    (h : ((barCell (up c o), 0, o.rev) : GSem nD τ sig × ℕ × Fin 15) = (barCell (up c' o'), 0, o'.rev)) : c = c' ∧ o = o' := by
  have ho : o = o' := Fin.rev_injective (congrArg (fun x : GSem nD τ sig × ℕ × Fin 15 => x.2.2) h)
  subst ho
  exact ⟨up_inj o (cell_ext (congrArg Prod.fst h)).1, rfl⟩
theorem duty_send_inj {c c' : Dev nD} {o o' : Fin 15}
    (h : ((sendCell c o, 0, 0) : GSem nD τ sig × ℕ × Fin 15) = (sendCell c' o', 0, 0)) : c = c' ∧ o = o' := by
  obtain ⟨h1, h2⟩ := cell_ext (congrArg Prod.fst h)
  exact ⟨h1, sendS_injective (SemLoc.dma.inj h2)⟩
theorem duty_recv_inj {c c' : Dev nD} {o o' : Fin 15}
    (h : ((recvCell (up c o) c, 0, 0) : GSem nD τ sig × ℕ × Fin 15) = (recvCell (up c' o') c', 0, 0)) : c = c' ∧ o = o' := by
  obtain ⟨h1, h2⟩ := cell_ext (congrArg Prod.fst h)
  have hc : c = c' := recvS_injective (SemLoc.dma.inj h2)
  subst hc
  exact ⟨rfl, up_off_inj c h1⟩

/-- The semaphore a duty is on. -/
def semAt (x : GSem nD τ sig × ℕ × Fin 15) : SemLoc sig := x.1.2

theorem dutyOf_injective : Function.Injective dutyOf := by
  rintro ⟨c, k, o⟩ ⟨c', k', o'⟩ h
  have hs : semAt (dutyOf (c, k, o)) = semAt (dutyOf (c', k', o')) := congrArg semAt h
  fin_cases k <;> fin_cases k'
  · obtain ⟨rfl, rfl⟩ := duty_bar_inj h; rfl
  · cases hs
  · cases hs
  · cases hs
  · obtain ⟨rfl, rfl⟩ := duty_send_inj h; rfl
  · exact absurd (SemLoc.dma.inj hs) (sendS_ne_recvS o c')
  · cases hs
  · exact absurd (SemLoc.dma.inj hs).symm (sendS_ne_recvS o' c)
  · obtain ⟨rfl, rfl⟩ := duty_recv_inj h; rfl
def allDuties : Finset (GSem nD τ sig × ℕ × Fin 15) := Finset.univ.map ⟨dutyOf, dutyOf_injective⟩

/-- The rights device `c` is dealt. -/
def rights (c : Dev nD) : sProp 𝕄 :=
  iprop((bigSep Finset.univ fun o : Fin 15 => dutyTok ER (barCell (up c o)) 0 o.rev)
    ∗ (bigSep Finset.univ fun o : Fin 15 => dutyTok ER (sendCell c o) 0 0)
    ∗ bigSep Finset.univ fun o : Fin 15 => dutyTok ER (recvCell (up c o) c) 0 0)

/-- What device `c` is dealt at first: the start of each of its semaphores' rounds, its place in them, its rights. -/
def dealt (c : Dev nD) : sProp 𝕄 :=
  iprop((bigSep Finset.univ fun i : Fin 32 => roundState ER (Rd m) (cellOf (c, i)) 0)
    ∗ (bigSep Finset.univ fun i : Fin 32 => atPos ER (cellOf (c, i)) 0 ∅ 0)
    ∗ (bigSep Finset.univ fun i : Fin 32 => reached ER (cellOf (c, i)) 0) ∗ rights c)

theorem bigSep_three (Φ : Fin 3 → sProp 𝕄) : bigSep Finset.univ Φ = iprop(Φ 0 ∗ Φ 1 ∗ Φ 2) :=
  bigSep_univ_eq_bigSepL [0, 1, 2] (by decide) (by decide) Φ
theorem over_cells (Φ : GSem nD τ sig → sProp 𝕄) :
    bigSep allCells Φ = bigSep Finset.univ fun c : Dev nD => bigSep Finset.univ fun i : Fin 32 => Φ (cellOf (c, i)) := by
  unfold allCells; rw [bigSep_map]; exact bigSep_univ_prod (fun p : Dev nD × Fin 32 => Φ (cellOf p))
theorem over_duties :
    bigSep allDuties (fun x => (dutyTok ER x.1 x.2.1 x.2.2 : sProp 𝕄)) = bigSep Finset.univ fun c : Dev nD => rights c := by
  unfold allDuties; rw [bigSep_map, bigSep_univ_prod]
  refine bigSep_congr fun c _ => ?_
  rw [bigSep_univ_prod, bigSep_three]
  rfl

/-- The minted state is the devices' hands. -/
theorem deal : BI.own (ER (initOf allCells allDuties)) ⊢ (|==> bigSep Finset.univ (dealt m) : sProp 𝕄) := by
  have hd : (bigSep Finset.univ (dealt m) : sProp 𝕄) = iprop(bigSep allCells (fun g => roundState ER (Rd m) g 0)
      ∗ bigSep allCells (fun g => atPos ER g 0 ∅ 0) ∗ bigSep allCells (fun g => reached ER g 0)
      ∗ bigSep allDuties fun x => dutyTok ER x.1 x.2.1 x.2.2) := by
    rw [over_cells, over_cells, over_cells, over_duties, ← bigSep_sep', ← bigSep_sep', ← bigSep_sep']
    rfl
  rw [hd]
  iintro HX
  imod (Rounds.fund ER (Rd m) allCells allDuties) $$ HX with ⟨Hst, Hr, Hat, Htok⟩
  imodintro
  isplitl [Hst]; · iexact Hst
  isplitl [Hat]; · iexact Hat
  isplitl [Hr]; · iexact Hr
  iexact Htok

/-! ## The semaphores at launch -/

/-- The kernel's own semaphores: its cells' but the barrier. -/
abbrev osem (k : Fin 31) : SemLoc sig := semOf k.succ

theorem univ_succ : (Finset.univ : Finset (Fin 32)) = insert 0 (Finset.univ.map ⟨Fin.succ, Fin.succ_injective 31⟩) := by decide
theorem zero_not_succ : (0 : Fin 32) ∉ Finset.univ.map ⟨Fin.succ, Fin.succ_injective 31⟩ := by decide

/-- The barrier is the one semaphore that outlives the call. -/
theorem outer_eq (c : Dev nD) : (unscopedSems0 c : sProp 𝕄) = semVal (barCell c) 0 := by
  unfold unscopedSems0; rw [bigSep_eq_bigSepL_of_eq [SemLoc.reg barS] (by decide) (by decide)]; rfl

/-- The own semaphores and the barrier are the cells' thirty-two. -/
theorem sems_eq (c : Dev nD) :
    (bigSep Finset.univ fun i : Fin 32 => semVal (cellOf (c, i)) 0 : sProp 𝕄)
      = iprop(unscopedSems0 c ∗ Pipeline.ownSems0 (Ix := Unit) (Name := ℕ) (U := UU) (Lvl := ℕ) (Val := Elt F) (τ := τ) osem c) := by
  rw [outer_eq, univ_succ]
  refine (bigSep_insert zero_not_succ).trans ?_
  rw [bigSep_map]; rfl

/-- A device opens its cells: each semaphore at zero and the start of its rounds become the cell's invariant. -/
theorem open_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun i : Fin 32 => iprop(∃ κ : ℕ, cellInv ER (Rd m) κ (cellOf (c, i))))
          ∗ (bigSep Finset.univ fun i : Fin 32 => atPos ER (cellOf (c, i)) 0 ∅ 0)
          ∗ (bigSep Finset.univ fun i : Fin 32 => reached ER (cellOf (c, i)) 0) ∗ rights c) := by
  have hopen : iprop((bigSep Finset.univ fun i : Fin 32 => semVal (cellOf (c, i)) 0)
        ∗ bigSep Finset.univ fun i : Fin 32 => roundState ER (Rd m) (cellOf (c, i)) 0)
      ⊢ (|={Set.univ}=> bigSep Finset.univ fun i : Fin 32 => iprop(∃ κ : ℕ, cellInv ER (Rd m) κ (cellOf (c, i))) : sProp 𝕄) := by
    rw [← bigSep_sep']
    exact (bigSep_mono fun i _ => (Rounds.body_intro ER (Rd m) (cellOf (c, i))).trans inv_alloc).trans (bigSep_fupd _ _)
  unfold dealt
  iintro ⟨Hown, Hout, Hst, Hrest⟩
  imod hopen $$ [Hown Hout Hst] with Hinv
  · isplitr [Hst]
    · rw [sems_eq]
      isplitl [Hout]; · iexact Hout
      iexact Hown
    · iexact Hst
  imodintro
  isplitl [Hinv]; · iexact Hinv
  iexact Hrest

/-- With what is known of every cell, a device's places and rights are its ghost state. -/
theorem ghost_of (K : Dev nD × Fin 32 → ℕ) (c : Dev nD) :
    iprop(recs m K ∗ ((bigSep Finset.univ fun i : Fin 32 => atPos ER (cellOf (c, i)) 0 ∅ 0) ∗ rights c)) ⊢ iprop(∃ K, ghost m K c) := by
  unfold ghost rights
  iintro ⟨Hr, Hat, Htok⟩
  iexists K
  isplitl [Hr]; · iexact Hr
  isplitl [Hat]; · iexact Hat
  iexact Htok

/-- The cells' invariants, found device by device, are known to all. -/
theorem share_out :
    (bigSep Finset.univ fun c : Dev nD => iprop((bigSep Finset.univ fun i : Fin 32 => iprop(∃ κ : ℕ, cellInv ER (Rd m) κ (cellOf (c, i))))
          ∗ (bigSep Finset.univ fun i : Fin 32 => atPos ER (cellOf (c, i)) 0 ∅ 0)
          ∗ (bigSep Finset.univ fun i : Fin 32 => reached ER (cellOf (c, i)) 0) ∗ rights c) : sProp 𝕄)
      ⊢ bigSep Finset.univ fun c : Dev nD => iprop(∃ K, ghost m K c) := by
  rw [bigSep_sep', bigSep_sep', bigSep_sep', ← bigSep_univ_prod (fun p : Dev nD × Fin 32 => iprop(∃ κ : ℕ, cellInv ER (Rd m) κ (cellOf p))),
    ← bigSep_univ_prod (fun p : Dev nD × Fin 32 => (reached ER (cellOf p) 0 : sProp 𝕄))]
  iintro ⟨HI, Hat, Hre, Htok⟩
  ihave HI := (BI.bigSep_exists_pi Finset.univ (fun (p : Dev nD × Fin 32) (κ : ℕ) => (cellInv ER (Rd m) κ (cellOf p) : sProp 𝕄))) $$ HI
  icases HI with ⟨%K, HI⟩
  iapply (bigSep_beside (R := recs m K) fun c _ => ghost_of m K c)
  isplitl [HI Hre]
  · unfold recs; rw [bigSep_sep']
    isplitl [HI]; · iexact HI
    iexact Hre
  · rw [bigSep_sep']
    isplitl [Hat]; · iexact Hat
    iexact Htok

/-- All devices at once: semaphores and hands become ghost states. -/
theorem set_up : (bigSep Finset.univ fun c => iprop(Pipeline.ownSems0 (Ix := Unit) (Name := ℕ) (U := UU) (Lvl := ℕ) (Val := Elt F) (τ := τ) osem c
        ∗ unscopedSems0 c ∗ dealt m c) : sProp 𝕄)
    ⊢ |={Set.univ}=> bigSep Finset.univ fun c : Dev nD => iprop(∃ K, ghost m K c) :=
  ((bigSep_mono fun c _ => open_cells m c).trans (bigSep_fupd _ _)).trans (BI.fupd_mono (share_out m))

/-! ## The counts owed at launch -/

/-- What a device owes at launch. -/
abbrev debt (c : Dev nD) : CellTallies nD τ sig Unit := owedBar c 0

theorem debt_at (d : Dev nD) (g : GSem nD τ sig) :
    debt d g () = (∑ o : Fin 15, (tallyAt (recvCell (up d o) d) () N : CellTallies nD τ sig Unit) g ())
      + ∑ o : Fin 15, (tallyAt (barCell (up d o)) () 1 : CellTallies nD τ sig Unit) g () := by
  show owedBar d 0 g () = _
  unfold owedBar owedRecv
  rw [ge_zero, Pi.add_apply, Finsupp.add_apply, Finset.sum_apply, Finset.sum_apply, Finsupp.finset_sum_apply, Finsupp.finset_sum_apply]

/-- Of device `d`'s debts the barrier of `c` is owed one for each offset that leads there; -/
theorem debt_bar (d c : Dev nD) : debt d (barCell c) () = ∑ o : Fin 15, if d = down c o then 1 else 0 := by
  rw [debt_at, Finset.sum_eq_zero fun o _ => by rw [tallyAt_apply, if_neg fun e => by cases (cell_ext e.1).2], Nat.zero_add]
  refine Finset.sum_congr rfl fun o _ => ?_
  rw [tallyAt_apply]
  refine if_congr ⟨fun e => ?_, fun e => ?_⟩ rfl rfl
  · rw [(cell_ext e.1).1, down_up]
  · subst e; rw [up_down]; exact ⟨rfl, rfl⟩

/-- and `c`'s receive semaphore for the device `o` down is owed a row by that device. -/
theorem debt_recv (d c : Dev nD) (o : Fin 15) : debt d (recvCell c (down c o)) () = if d = down c o then N else 0 := by
  rw [debt_at, Nat.add_comm, Finset.sum_eq_zero fun o _ => by rw [tallyAt_apply, if_neg fun e => by cases (cell_ext e.1).2], Nat.zero_add]
  by_cases h : d = down c o
  · subst h
    rw [if_pos rfl, Finset.sum_eq_single o, tallyAt_apply, if_pos]
    · rw [up_down]; exact ⟨rfl, rfl⟩
    · intro o' _ hne
      rw [tallyAt_apply, if_neg]
      intro e
      exact hne (up_off_inj (down c o) ((cell_ext e.1).1.symm.trans (up_down c o).symm))
    · exact fun hn => absurd (Finset.mem_univ o) hn
  · rw [if_neg h]
    refine Finset.sum_eq_zero fun o' _ => ?_
    rw [tallyAt_apply, if_neg]
    exact fun e => h (recvS_injective (SemLoc.dma.inj (cell_ext e.1).2)).symm

theorem launch_bar (c : Dev nD) :
    tallyOn (barCell c) (launchCredit (Pipeline.owing debt) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => debt_bar d c, Finset.sum_comm,
    Finset.sum_congr rfl fun o _ => Finset.sum_ite_eq' Finset.univ (down c o) fun _ => 1,
    Finset.sum_congr rfl fun o _ => if_pos (Finset.mem_univ (down c o)), Finset.sum_const, Finset.card_univ, Fintype.card_fin]
  rfl
theorem launch_recv (c : Dev nD) (o : Fin 15) :
    tallyOn (recvCell c (down c o)) (launchCredit (Pipeline.owing debt) 0 (recvCell c (down c o)))
      = (tallyAt (recvCell c (down c o)) () N : CellTallies nD τ sig Unit) := by
  unfold tallyAt; refine congrArg _ (Finsupp.ext fun u => ?_); cases u
  rw [Pipeline.launchCredit_owing, Finsupp.single_eq_same, Finset.sum_congr rfl fun d _ => debt_recv d c o,
    Finset.sum_ite_eq' Finset.univ (down c o) fun _ => N, if_pos (Finset.mem_univ _)]

/-- The receive semaphores of the fifteen other devices, and the barrier is none of them. -/
def others (c : Dev nD) : Finset (SemLoc sig) :=
  Finset.univ.map ⟨fun o : Fin 15 => SemLoc.dma (recvS (down c o)), fun a b h => down_off_inj c (recvS_injective (SemLoc.dma.inj h))⟩
theorem others_sub (c : Dev nD) : others c ⊆ Finset.univ.erase (SemLoc.reg barS) := fun sm h => by
  obtain ⟨o, -, rfl⟩ := Finset.mem_map.mp h
  exact Finset.mem_erase.mpr ⟨fun e => (by cases e), Finset.mem_univ _⟩

/-- The launch credits a device with what its barrier and its receive semaphores are owed. -/
theorem credits_of (c : Dev nD) : (Pipeline.launchCred debt c : sProp 𝕄) ⊢ credits c := by
  unfold Pipeline.launchCred credits
  rw [bigSep_univ_at _ (SemLoc.reg barS), launch_bar]
  refine sep_mono_right (BIBase.Entails.trans (bigSep_subset (others_sub c)) ?_)
  unfold others
  rw [bigSep_map]
  exact bigSep_mono fun o _ => Entails.of_eq (congrArg cred (launch_recv c o))

end Cert.KernelIdeal.Norm

end
-- ==== Proof.KernelIdeal.Run.lean ====
/-
The whole program's run: every device's kernel, launched together, ends, and ends with its block of the result.
-/
module

public import proofs.«01_k».proof.Proof.KernelIdeal.Deal
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.Norm

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The call's data -/

/-- What a device's kernel starts from beside its buffers. -/
def hand (c : Dev nD) : sProp 𝕄 := iprop((∃ K, ghost m K c) ∗ credits c ∗ levAts L lv)

/-- Before the kernel: that, and the buffer of sums at any contents; -/
def before (c : Dev nD) : sProp 𝕄 := iprop(hand m c ∗ ∃ f, pts c cc0_scratch0 f)
/-- after it: the buffer of sums filled, every semaphore closed at zero. -/
def after (c : Dev nD) : sProp 𝕄 :=
  iprop(pts c cc0_scratch0 (sums m) ∗ bigSep Finset.univ fun i : Fin 32 => semVal (cellOf (c, i)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => gstg m c
    | ⟨2, _⟩ => outAt m c
  Φ t := match t with
    | ⟨0, _⟩ => before m c
    | ⟨_ + 1, _⟩ => after m c
  q _ := fullShare
  owed t := match t with
    | ⟨0, _⟩ => debt c
    | ⟨_ + 1, _⟩ => 0

theorem windows (Φ : Fin cfg0.W → sProp 𝕄) : bigSep Finset.univ Φ = iprop(Φ (0 : Fin 3) ∗ Φ (1 : Fin 3) ∗ Φ (2 : Fin 3)) := bigSep_W0 Φ
theorem fetch_x (t : Fin cfg0.N) : (cfg0.win (0 : Fin 3)).fetch t = true := by rw [fin_N0 t]; rfl
theorem fetch_g (t : Fin cfg0.N) : (cfg0.win (1 : Fin 3)).fetch t = true := by rw [fin_N0 t]; rfl

/-- To own a whole staging buffer at contents `X` is to hold it at them. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def callPre (c : Dev nD) : sProp 𝕄 :=
  iprop(before m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
set_option maxRecDepth 4000 in
def callPost (c : Dev nD) : sProp 𝕄 :=
  iprop(after m c ∗ (dats m ρ 0 c).owesAt () t0_0.succ
    ∗ stg c cc0_stg0_0 (xstg m c) ∗ stg c cc0_stg1_0 (gstg m c) ∗ stg c cc0_stg2_0 (outAt m c))

/-- A device's run ends in what the call asks of it. -/
theorem post_of (c : Dev nD) : bodyPost m c ⊢ callPost m ρ c := by
  unfold bodyPost callPost after Dat.owesAt Pipeline.owesWithin stg pts
  rw [show (dats m ρ 0 c).owed t0_0.succ = 0 from rfl]
  iintro ⟨Hz, ⟨%W, HO⟩, Hs, Hx, Hg, Ho⟩
  isplitl [Hs Hz]
  · isplitl [Hs]; · iexact Hs
    iexact Hz
  isplitl [HO]
  · iexists W; isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Ho

set_option maxRecDepth 4000 in
/-- The kernel's run, as the call asks for it. -/
theorem run_body (c : Dev nD) : callPre m ρ c
    ⊢ wp frame (wpE (defs₀ (F := F)) 𝒱₀ c none) Set.univ
        (cc0_body xM (Memref.isWhole_whole _) gM (Memref.isWhole_whole _) oM (Memref.isWhole_whole _) pM (Memref.isWhole_whole _) cc0_scratch1 cc0_scratch2)
        (fun _ => callPost m ρ c) := by
  unfold callPre before hand Dat.owesAt Pipeline.owesWithin stg
  rw [show (dats m ρ 0 c).owed t0_0.castSucc = owedBar c 0 from rfl]
  iintro ⟨⟨⟨⟨%K, Hgh⟩, Hcr, Hlev⟩, ⟨%f, Hs⟩⟩, ⟨%W, %hW, HO⟩, ⟨%d0, %f0, %h0, Hx⟩, ⟨%d1, %f1, %h1, Hg⟩, ⟨%d2, %f2, %h2, Ho⟩⟩
  have hx : f0 = xstg m c := by rw [h0]; unfold Dat.before; rw [if_pos (fetch_x t0_0)]; rfl
  have hg : f1 = gstg m c := by rw [h1]; unfold Dat.before; rw [if_pos (fetch_g t0_0)]; rfl
  subst hx; subst hg
  iapply (sound_body m K c f f2 fun _ => callPost m ρ c)
  unfold bodyPre pts
  isplitl
  · isplitl [Hgh]; · iexact Hgh
    isplitl [Hcr]; · iexact Hcr
    isplitl [Hlev]; · iexact Hlev
    isplitl [HO]; · iexists W; iexact HO
    isplitl [Hs]; · iexact Hs
    isplitl [Hx]; · iexact Hx
    isplitl [Hg]; · iexact Hg
    iexact Ho
  · iintro H; iapply (post_of m ρ c); iexact H

set_option maxRecDepth 4000 in
theorem body_obligation (c : Dev nD) : BodyObligation (dats (F := F) m ρ 0 c) (defs₀ (F := F)) 𝒱₀ () Set.univ := fun t => by
  rw [fin_N0 t]
  rw [windows, windows]
  simp only [owns_whole]
  exact run_body m ρ c

/-! ## The launch -/

theorem osem_facts : Pipeline.OwnSemFacts cfg0.spec osem := by decide +kernel

theorem share_eq (c : Dev nD) (w : Fin cfg0.W) : (dats m ρ 0 c).share w = fullShare := by unfold Dat.share; split <;> rfl

/-- The ghost state minted at launch: the pipeline's and the protocol's. -/
def u₀ : UU :=
  (initOf (Pipeline.cells cfgs cellOf_inj) (Pipeline.launchToks cfgs cellOf_inj), initOf allCells allDuties)

theorem hand_of (c : Dev nD) :
    iprop(Pipeline.unscopedRestP Pipeline.Prefetch.none cfg0.spec c (fun b => m ((c : Thread nD τ).loc b)) ∗ levAts L lv
        ∗ Pipeline.launchCred debt c ∗ prngReg c (ρ c) ∗ (∃ K, ghost m K c))
      ⊢ |={Set.univ}=> iprop(hand m c ∗ emp) := by
  iintro ⟨-, Hlev, Hcr, -, HG⟩
  ihave Hc := (credits_of c) $$ Hcr
  imodintro
  unfold hand
  isplitl
  · isplitl [HG]; · iexact HG
    isplitl [Hc]; · iexact Hc
    iexact Hlev
  · iempintro

theorem before_of (c : Dev nD) :
    iprop(hand m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before
  iintro ⟨Hs, -, ⟨%f, Hr⟩⟩
  isplitl [Hs]; · iexact Hs
  iexists f; iexact Hr

theorem exit_of (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after m c from rfl, scopedRest0_eq]
  unfold after
  rw [sems_eq]
  iintro ⟨Hr, Hu, Ho⟩
  isplitl [Hu]; · iexact Hu
  isplitl [Ho]; · iexact Ho
  iexists (sums m); iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- What window `w`'s array holds on device `c` in the end. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Launched on the sixteen devices from any memory with its semaphores at zero, the program ends under every fair
    schedule, with each device's arrays at the computed contents and every semaphore at zero again. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := debt) (howed₀ := fun _ => rfl) (howedN := fun _ => rfl)
    (L := L) (lv := lv) (hL := L_of_ne) (hwaits := waits m ρ)
    (G := dealt m) (G' := fun c => iprop(∃ K, ghost m K c)) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := set_up m)
    (hA := fun _ _ => rfl) (hpf := fun _ k => k.elim0)
    (X := hand m) (Y := fun c => unscopedSems0 c) (Z := fun _ => iprop(emp))
    (hX := hand_of m ρ) (hin := before_of m ρ) (hout := exit_of m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs end as they began. -/
theorem final_x (c : Dev nD) : finalA m ρ c (0 : Fin 3) = m ((c : Thread nD τ).loc main_arg0) :=
  (dats (F := F) m ρ 0 c).arrAt_in (0 : Fin 3) rfl _
theorem final_g (c : Dev nD) : finalA m ρ c (1 : Fin 3) = m ((c : Thread nD τ).loc main_arg1) :=
  (dats (F := F) m ρ 0 c).arrAt_in (1 : Fin 3) rfl _

end Cert.KernelIdeal.Norm

end
-- ==== Proof.Math.lean ====
/-
The arithmetic of the claim, on extended reals: the kernel multiplies by an inverse root, the reference divides by a
root; the kernel adds sixteen partial sums, the reference one sum of a whole row.
-/
module

public import Idealize.ShloMosaic.PureOps.Ideal
public import Idealize.ShloMosaic.Lib.Pointwise.Tactic

@[expose] public section

noncomputable section

namespace Cert.Math

open Idealize.ShloMosaic

/-- The row's length, as both programs write it. -/
abbrev len : EReal := Ideal.ofBits .f32 0x46000000#32
/-- The constant added under the root, as both programs write it. -/
abbrev eps : EReal := Ideal.ofBits .f32 0x3727C5AC#32

theorem len_eq : len = ((8192 : ℝ) : EReal) := by
  simp [Ideal.ofBits, Ideal.ieee, -EReal.coe_mul]; norm_num
theorem eps_pos : 0 < eps := by
  have h : eps = ((10995116 * (2 ^ 40)⁻¹ : ℝ) : EReal) := by simp [Ideal.ofBits, Ideal.ieee, -EReal.coe_mul]
  rw [h, ← EReal.coe_zero, EReal.coe_lt_coe_iff]; positivity

/-- To multiply by the inverse root of a positive number, infinity among them, is to divide by its root. -/
theorem scale_eq (x g t : EReal) (ht : 0 < t) : x * g * Ideal.rsqrt t = Ideal.div (g * x) (Ideal.sqrt t) := by
  induction t using EReal.rec with
  | bot => exact absurd ht (by simp)
  | top => rw [Ideal.rsqrt_top, Ideal.sqrt_top, Ideal.div, if_neg (by simp), EReal.inv_top, mul_zero, mul_zero]
  | coe r =>
    have hr : 0 < r := by rwa [← EReal.coe_zero, EReal.coe_lt_coe_iff] at ht
    have hs : (Real.sqrt r : EReal) ≠ 0 := by
      rw [← EReal.coe_zero]; exact fun h => (Real.sqrt_pos.mpr hr).ne' (EReal.coe_injective h)
    rw [Ideal.rsqrt_coe, Ideal.sqrt_coe, if_neg hr.not_gt, if_neg hr.ne', if_neg hr.not_gt, Ideal.div, if_neg hs, EReal.coe_inv, mul_comm x g]

/-- A square is not negative. -/
theorem sq_nonneg' (x : EReal) : 0 ≤ x * x := by
  induction x using EReal.rec with
  | bot => simp
  | top => simp
  | coe r => rw [← EReal.coe_mul, ← EReal.coe_zero, EReal.coe_le_coe_iff]; exact mul_self_nonneg r

/-- What stands under the root is positive, whatever the row holds. -/
theorem under_root_pos {n : ℕ} (f : Fin n → EReal) : 0 < Ideal.div (∑ j, f j * f j) len + eps := by
  have hS : 0 ≤ ∑ j, f j * f j := Finset.sum_nonneg fun j _ => sq_nonneg' (f j)
  have hq : 0 ≤ Ideal.div (∑ j, f j * f j) len := by
    rw [len_eq, Ideal.div, if_neg (by norm_num), ← EReal.coe_inv]
    exact mul_nonneg hS (by rw [← EReal.coe_zero, EReal.coe_le_coe_iff]; positivity)
  exact lt_of_lt_of_le eps_pos (le_add_of_nonneg_left hq)

/-- Column `k` of block `s`, among the whole row's. -/
def col (s : Fin 16) (k : Fin 512) : Fin 8192 := ⟨s.val * 512 + k.val, by have := s.isLt; have := k.isLt; omega⟩

/-- The sum over a row is the sum of its sixteen blocks' sums. -/
theorem sum_blocks (f : Fin 8192 → EReal) : ∑ s : Fin 16, ∑ k : Fin 512, f (col s k) = ∑ j, f j := by
  rw [← Fintype.sum_prod_type']
  refine Fintype.sum_equiv (finProdFinEquiv : Fin 16 × Fin 512 ≃ Fin (16 * 512)) _ _ fun p => congrArg f (Fin.ext ?_)
  show p.1.val * 512 + p.2.val = p.2.val + 512 * p.1.val
  omega

end Cert.Math

end
-- ==== Proof.Reference.lean ====
/-
What the reference computes, entry by entry.
-/
module

public import proofs.«01_k».proof.Proof.Math
public import proofs.«01_k».proof.Proof.Gen.ReferenceIdeal
public import Idealize.ShloMosaic.Lib.Pointwise.Tactic
public import Idealize.ShloMosaic.Lib.Pointwise.Reduce
public import Idealize.ShloMosaic.Lib.Pointwise.Reshape

@[expose] public section

noncomputable section

namespace Cert.ReferenceIdeal.Norm

open Idealize.ShloMosaic Cert.ReferenceIdeal Cert.ReferenceIdeal.Gen Cert.Math

/-- The reference's result, of the whole input and the whole vector of scales. -/
def result (x : FVec Ideal S768x8192 .f32) (g : FVec Ideal S8192 .f32) : FVec Ideal S768x8192 .f32 :=
  Host.divf (mulf (broadcastInDim S768x8192 ![0, 1] bcast_S1x8192_S768x8192_0_1 (broadcastInDim S1x8192 ![1] bcast_S8192_S1x8192_1 g)) x)
    (broadcastInDim S768x8192 ![0, 1] bcast_S768x1_S768x8192_0_1
      (Host.sqrt (addf (Host.divf (broadcastInDim S768x1 ![0] bcast_S768_S768x1_0
          (Host.reduceAdd (mulf x x) (constant S_ .f32 0x00000000#32) reducesTo_S768x8192_S768_d1 h_S_))
        (broadcastInDim S768x1 ![] bcast_S_S768x1 (constant S_ .f32 0x46000000#32)))
        (broadcastInDim S768x1 ![] bcast_S_S768x1 (constant S_ .f32 0x3727C5AC#32)))))

/-- Entry `(r, j)`: the scaled entry over the root of the mean of row `r`'s squares. -/
theorem result_at (x : FVec Ideal S768x8192 .f32) (g : FVec Ideal S8192 .f32) (r : Fin 768) (j : Fin 8192) :
    result x g (ix2 r j) = Ideal.div (g (ix1 j) * x (ix2 r j)) (Ideal.sqrt (Ideal.div (∑ k : Fin 8192, x (ix2 r k) * x (ix2 r k)) len + eps)) := by
  unfold result
  pointwise

end Cert.ReferenceIdeal.Norm

end
-- ==== Proof.Value.lean ====
/-
What the kernel leaves in each device's result array, entry by entry, and that it is the device's block of the
reference's result.
-/
module

public import proofs.«01_k».proof.Proof.KernelIdeal.Run
public import proofs.«01_k».proof.Proof.Reference
public import Idealize.ShloMosaic.Lib.Layout

@[expose] public section

noncomputable section

namespace Cert.KernelIdeal.Norm

open Idealize.ShloMosaic Idealize.ShloMosaic.TcCoe Cert.KernelIdeal Cert.KernelIdeal.Gen Cert.Math

/-! ## The arrays are one block each -/

section Arrays

variable {F : FTy → Type} [FloatOps F]
variable (m : (ℓ : Loc nD τ sig) → Buf (Elt F) ℓ) (ρ : Dev nD → PrngReg)

/-- The staged input is the device's input array; -/
theorem xstg_eq (c : Dev nD) : xstg m c = m ((c : Thread nD τ).loc main_arg0) :=
  Memref.read_access_unit_zero (Elt F) main_arg0 (funext fun a => by fin_cases a <;> decide) (fun a => by fin_cases a <;> decide) _
/-- the staged scales are its array of scales; -/
theorem gstg_eq (c : Dev nD) : gstg m c = m ((c : Thread nD τ).loc main_arg1) :=
  Memref.read_access_unit_zero (Elt F) main_arg1 (funext fun a => by fin_cases a; decide) (fun a => by fin_cases a; decide) _
/-- the result array ends at what the kernel stored. -/
theorem final_out (c : Dev nD) : finalA m ρ c (2 : Fin 3) = outAt m c := by
  have h : (win0_2.blk t0_0).view.read (Elt F) (finalA m ρ c (2 : Fin 3)) = outAt m c := by
    unfold finalA
    rw [show cfg0.N = (t0_0 : Fin cfg0.N).val + 1 from rfl, (dats m ρ 0 c).arrAt_succ (2 : Fin 3) t0_0]
    rw [show (cfg0.win (2 : Fin 3)).flush t0_0 = true from by decide, if_pos rfl]
    exact View.read_write_univ _ _
  rw [← h]
  exact (Memref.read_access_unit_zero (Elt F) main_v1 (funext fun a => by fin_cases a <;> decide) (fun a => by fin_cases a <;> decide) _).symm

end Arrays

/-! ## The entries -/

/-- Row `r`'s sum of squares in one block. -/
theorem partial_at (x : FVec Ideal S768x512 .f32) (r : Fin 768) :
    k0_pay2 (F := Ideal) x (ix2 (0 : Fin 1) r) = ∑ k : Fin 512, x (ix2 r k) * x (ix2 r k) := by
  unfold k0_pay2 k0_pay1
  pointwise

/-- The stored entry `(r, j)`, of the device's block, its scales and the sixteen rows of partial sums. -/
theorem stored_at (x : FVec Ideal S768x512 .f32) (g : FVec Ideal S512 .f32) (p : FVec Ideal S16x768 .f32) (r : Fin 768) (j : Fin 512) :
    k0_pay4 (F := Ideal) (k0_pay3 (F := Ideal) (k0_pay1 (F := Ideal) x) g) p (ix2 r j)
      = x (ix2 r j) * g (ix1 j) * Ideal.rsqrt (Ideal.div (∑ s : Fin 16, p (ix2 s r)) len + eps) := by
  unfold k0_pay4 k0_pay3 k0_pay1
  pointwise

/-- Where entry `(r, j)` of device `c`'s block is in the whole array. -/
theorem block_idx2 (h : Layout.Tiles ⟨2, ![768, 512]⟩ ⟨2, ![768, 8192]⟩ 1 16) (c : Fin 16) (r : Fin 768) (j : Fin 512) :
    h.idx c (ix2 r j) = ix2 r (col c j) := by
  funext b; refine Fin.ext ?_; rw [h.idx_val]; fin_cases b <;> rfl
theorem block_idx1 (h : Layout.Tiles ⟨1, ![512]⟩ ⟨1, ![8192]⟩ 0 16) (c : Fin 16) (j : Fin 512) :
    h.idx c (ix1 j) = ix1 (col c j) := by
  funext b; refine Fin.ext ?_; rw [h.idx_val]; fin_cases b; rfl

/-! ## The equation -/

variable (m : (ℓ : Loc nD τ sig) → Buf (Elt Ideal) ℓ)

/-- The staged input, the staged scales and the sums, as arrays of extended reals. -/
def xs (c : Dev nD) : FVec Ideal S768x512 .f32 := xstg m c
def gs (c : Dev nD) : FVec Ideal S512 .f32 := gstg m c
def ps : FVec Ideal S16x768 .f32 := sums m

/-- If every device's arrays are its blocks of `x` and `g`, device `c` stores its block of the reference's result. -/
theorem out_block (x : FVec Ideal Cert.ReferenceIdeal.S768x8192 .f32) (g : FVec Ideal Cert.ReferenceIdeal.S8192 .f32)
    (hx : ∀ c : Dev nD, m ((c : Thread nD τ).loc main_arg0) = Layout.block ⟨2, ![768, 512]⟩ ⟨2, ![768, 8192]⟩ 1 16 c x)
    (hg : ∀ c : Dev nD, m ((c : Thread nD τ).loc main_arg1) = Layout.block ⟨1, ![512]⟩ ⟨1, ![8192]⟩ 0 16 c g) (c : Dev nD) :
    outAt m c = Layout.block ⟨2, ![768, 512]⟩ ⟨2, ![768, 8192]⟩ 1 16 c (Cert.ReferenceIdeal.Norm.result x g) := by
  have hxs : ∀ (s : Dev nD) (r : Fin 768) (k : Fin 512), xs m s (ix2 r k) = x (ix2 r (col s k)) := fun s r k => by
    show xstg m s (ix2 r k) = _; rw [xstg_eq, hx s]; exact congrArg x (block_idx2 _ s r k)
  have hgs : ∀ k : Fin 512, gs m c (ix1 k) = g (ix1 (col c k)) := fun k => by
    show gstg m c (ix1 k) = _; rw [gstg_eq, hg c]; exact congrArg g (block_idx1 _ c k)
  have hsum : ∀ r : Fin 768, ∑ s : Fin 16, ps m (ix2 s r) = ∑ k : Fin 8192, x (ix2 r k) * x (ix2 r k) := fun r => by
    rw [← sum_blocks fun k => x (ix2 r k) * x (ix2 r k)]
    refine Finset.sum_congr rfl fun s _ => ?_
    refine (partial_at (xs m s) r).trans (Finset.sum_congr rfl fun k _ => ?_)
    rw [hxs]
  funext i
  obtain ⟨r, j, rfl⟩ : ∃ (r : Fin 768) (j : Fin 512), i = ix2 r j := ⟨i 0, i 1, by funext a; fin_cases a <;> rfl⟩
  refine (stored_at (xs m c) (gs m c) (ps m) r j).trans ?_
  rw [hsum, hxs, hgs, scale_eq _ _ _ (under_root_pos fun k => x (ix2 r k)), ← Cert.ReferenceIdeal.Norm.result_at]
  exact (congrArg (Cert.ReferenceIdeal.Norm.result x g) (block_idx2 _ c r j)).symm

end Cert.KernelIdeal.Norm

end
-- ==== Proof.lean ====
/-
The five claims, put together: the kernel runs and ends quiet, as printed and at ideal numbers; so does the reference;
nothing was rewritten between the two readings of the kernel; and the kernel's blocks are the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs, leaves its inputs alone, and ends with every semaphore at zero. -/
theorem kernel_quiet : Cert.quiescent_Kernel := fun m g _ =>
  (θ_run Cert.Kernel.defs _ _).mono
    (fun _ h => ⟨fun c => ⟨(h.1 c (0 : Fin 3)).trans (Cert.Kernel.Norm.final_x m g c), (h.1 c (1 : Fin 3)).trans (Cert.Kernel.Norm.final_g m g c)⟩, h.2⟩)
    (Cert.Kernel.Norm.run_main (F := Bits) m g)

/-- So does the kernel at ideal numbers, -/
theorem ideal_quiet : Cert.quiescent_KernelIdeal := fun m g _ =>
  (θ_run Cert.KernelIdeal.defs _ _).mono
    (fun _ h => ⟨fun c => ⟨(h.1 c (0 : Fin 3)).trans (Cert.KernelIdeal.Norm.final_x m g c), (h.1 c (1 : Fin 3)).trans (Cert.KernelIdeal.Norm.final_g m g c)⟩, h.2⟩)
    (Cert.KernelIdeal.Norm.run_main (F := Ideal) m g)

/-- and the reference, which has no semaphore. -/
theorem reference_quiet : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Each device's result is its block of what the reference computes of the whole arrays. -/
theorem kernel_is_reference : Cert.algebraic_KernelIdeal_ReferenceIdeal := fun m g m' g' _ hin =>
  ⟨Cert.ReferenceIdeal.Norm.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c (2 : Fin 3)).trans (Cert.KernelIdeal.Norm.final_out m g c)).trans
          (Cert.KernelIdeal.Norm.out_block m _ _ (fun d => (hin d).1) (fun d => (hin d).2) c),
        (h.1 c (0 : Fin 3)).trans (Cert.KernelIdeal.Norm.final_x m g c), (h.1 c (1 : Fin 3)).trans (Cert.KernelIdeal.Norm.final_g m g c)⟩)
      (Cert.KernelIdeal.Norm.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    kernel_quiet, ideal_quiet, reference_quiet, trivial, kernel_is_reference⟩

end Cert.Proof

end
